-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩
abbrev S1024x1024 : Shape := ⟨2, ![1024, 1024]⟩
abbrev S2048x1024 : Shape := ⟨2, ![2048, 1024]⟩
abbrev S5 : Shape := ⟨1, ![5]⟩
abbrev S1024x128 : Shape := ⟨2, ![1024, 128]⟩
abbrev S1x1024x1x128 : Shape := ⟨4, ![1, 1024, 1, 128]⟩
abbrev S1024 : Shape := ⟨1, ![1024]⟩
abbrev S1024x1 : Shape := ⟨2, ![1024, 1]⟩
abbrev S1 : Shape := ⟨1, ![1]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩

abbrev nBuf : Space → Nat
  | .hbm => 30
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x8x128, .f32⟩
  | .hbm, ⟨3, _⟩ => ⟨S1x1024x8x128, .f32⟩
  | .hbm, ⟨4, _⟩ => ⟨S32768x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .f32⟩
  | .hbm, ⟨29, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v10 : BitVec 32 := Scalar.xori v2 c8_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_mult1 (d0 : Dev nD) : BitVec 32 :=
  let c0_i32_157 : BitVec 32 := 0#32
  let c1_i32_156 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let v255 : BitVec 32 := Scalar.subi c1_i32_156 v253
  let c512_i32 : BitVec 32 := 512#32
  let v256 : BitVec 32 := Scalar.muli v255 c512_i32
  let v257 : BitVec 32 := Scalar.addi c0_i32_157 v256
  v257
def k0_mult2 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  v260
def k0_off1 (d0 : Dev nD) : Fin 2 → Nat :=
  let c0_i32_157 : BitVec 32 := 0#32
  let c1_i32_156 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let v255 : BitVec 32 := Scalar.subi c1_i32_156 v253
  let c512_i32 : BitVec 32 := 512#32
  let v256 : BitVec 32 := Scalar.muli v255 c512_i32
  let v257 : BitVec 32 := Scalar.addi c0_i32_157 v256
  let v258 : BitVec 32 := v257
  let c0_i32_166 : BitVec 32 := 0#32
  ![v258.toNat, 0]
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_155 : BitVec 32 := 1#32
  let v254 : BitVec 32 := Scalar.xori v2 c1_i32_155
  let c1_i32_162 : BitVec 32 := 1#32
  let v262 : BitVec 32 := Scalar.muli v254 c1_i32_162
  let v263 : BitVec 32 := Scalar.addi c0_i32_163 v262
  v263.toNat
def k0_off2 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let v280 : Index := Scalar.indexCast v261
  let c0_180 : Index := 0#32
  ![v280.toNat, 0]
def k0_mult3 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c1_i32_198 : BitVec 32 := 1#32
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let v316 : BitVec 32 := Scalar.subi c1_i32_198 v314
  let c256_i32 : BitVec 32 := 256#32
  let v317 : BitVec 32 := Scalar.muli v316 c256_i32
  let v318 : BitVec 32 := Scalar.addi v261 v317
  v318
def k0_mult4 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  v321
def k0_off3 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c1_i32_198 : BitVec 32 := 1#32
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let v316 : BitVec 32 := Scalar.subi c1_i32_198 v314
  let c256_i32 : BitVec 32 := 256#32
  let v317 : BitVec 32 := Scalar.muli v316 c256_i32
  let v318 : BitVec 32 := Scalar.addi v261 v317
  let v319 : BitVec 32 := v318
  let c0_i32_206 : BitVec 32 := 0#32
  ![v319.toNat, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_197 : BitVec 32 := 2#32
  let v315 : BitVec 32 := Scalar.xori v2 c2_i32_197
  let c1_i32_202 : BitVec 32 := 1#32
  let v323 : BitVec 32 := Scalar.muli v315 c1_i32_202
  let v324 : BitVec 32 := Scalar.addi c0_i32_203 v323
  v324.toNat
def k0_off4 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let v341 : Index := Scalar.indexCast v322
  let c0_220 : Index := 0#32
  ![v341.toNat, 0]
def k0_mult5 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c1_i32_238 : BitVec 32 := 1#32
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let v377 : BitVec 32 := Scalar.subi c1_i32_238 v375
  let c128_i32_239 : BitVec 32 := 128#32
  let v378 : BitVec 32 := Scalar.muli v377 c128_i32_239
  let v379 : BitVec 32 := Scalar.addi v322 v378
  v379
def k0_mult6 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  v382
def k0_off5 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c1_i32_238 : BitVec 32 := 1#32
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let v377 : BitVec 32 := Scalar.subi c1_i32_238 v375
  let c128_i32_239 : BitVec 32 := 128#32
  let v378 : BitVec 32 := Scalar.muli v377 c128_i32_239
  let v379 : BitVec 32 := Scalar.addi v322 v378
  let v380 : BitVec 32 := v379
  let c0_i32_246 : BitVec 32 := 0#32
  ![v380.toNat, 0]
def k0_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_237 : BitVec 32 := 8#32
  let v376 : BitVec 32 := Scalar.xori v2 c8_i32_237
  let c1_i32_243 : BitVec 32 := 1#32
  let v384 : BitVec 32 := Scalar.muli v376 c1_i32_243
  let v385 : BitVec 32 := Scalar.addi c0_i32_244 v384
  v385.toNat
def k0_off6 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let v402 : Index := Scalar.indexCast v383
  let c0_260 : Index := 0#32
  ![v402.toNat, 0]
def k0_mult7 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c1_i32_278 : BitVec 32 := 1#32
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let v438 : BitVec 32 := Scalar.subi c1_i32_278 v436
  let c64_i32 : BitVec 32 := 64#32
  let v439 : BitVec 32 := Scalar.muli v438 c64_i32
  let v440 : BitVec 32 := Scalar.addi v383 v439
  v440
def k0_mult8 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  v443
def k0_off7 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c1_i32_278 : BitVec 32 := 1#32
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let v438 : BitVec 32 := Scalar.subi c1_i32_278 v436
  let c64_i32 : BitVec 32 := 64#32
  let v439 : BitVec 32 := Scalar.muli v438 c64_i32
  let v440 : BitVec 32 := Scalar.addi v383 v439
  let v441 : BitVec 32 := v440
  let c0_i32_284 : BitVec 32 := 0#32
  ![v441.toNat, 0]
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_277 : BitVec 32 := 4#32
  let v437 : BitVec 32 := Scalar.xori v2 c4_i32_277
  let c1_i32_281 : BitVec 32 := 1#32
  let v445 : BitVec 32 := Scalar.muli v437 c1_i32_281
  let v446 : BitVec 32 := Scalar.addi c0_i32_282 v445
  v446.toNat
def k0_off8 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let v463 : Index := Scalar.indexCast v444
  let c0_298 : Index := 0#32
  ![v463.toNat, 0]
def k0_mult9 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c1_i32_316 : BitVec 32 := 1#32
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let v499 : BitVec 32 := Scalar.subi c1_i32_316 v497
  let c32_i32_317 : BitVec 32 := 32#32
  let v500 : BitVec 32 := Scalar.muli v499 c32_i32_317
  let v501 : BitVec 32 := Scalar.addi v444 v500
  v501
def k0_mult10 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  v504
def k0_off9 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c1_i32_316 : BitVec 32 := 1#32
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let v499 : BitVec 32 := Scalar.subi c1_i32_316 v497
  let c32_i32_317 : BitVec 32 := 32#32
  let v500 : BitVec 32 := Scalar.muli v499 c32_i32_317
  let v501 : BitVec 32 := Scalar.addi v444 v500
  let v502 : BitVec 32 := v501
  let c0_i32_324 : BitVec 32 := 0#32
  ![v502.toNat, 0]
def k0_dev10 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_315 : BitVec 32 := 16#32
  let v498 : BitVec 32 := Scalar.xori v2 c16_i32_315
  let c1_i32_321 : BitVec 32 := 1#32
  let v506 : BitVec 32 := Scalar.muli v498 c1_i32_321
  let v507 : BitVec 32 := Scalar.addi c0_i32_322 v506
  v507.toNat
def k0_off10 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v524 : Index := Scalar.indexCast v505
  let c0_338 : Index := 0#32
  ![v524.toNat, 0]
def k0_mult11 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let c32_i32_342 : BitVec 32 := 32#32
  let v533 : BitVec 32 := Scalar.xori v505 c32_i32_342
  v533
def k0_mult12 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  v505
def k0_off11 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c0_i32_348 : BitVec 32 := 0#32
  ![v535.toNat, 0]
def k0_dev11 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_341 : BitVec 32 := 16#32
  let v532 : BitVec 32 := Scalar.xori v2 c16_i32_341
  let c1_i32_345 : BitVec 32 := 1#32
  let v536 : BitVec 32 := Scalar.muli v532 c1_i32_345
  let v537 : BitVec 32 := Scalar.addi c0_i32_346 v536
  v537.toNat
def k0_off12 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let c32_i32_342 : BitVec 32 := 32#32
  let v533 : BitVec 32 := Scalar.xori v505 c32_i32_342
  let v534 : BitVec 32 := v533
  let v555 : Index := Scalar.indexCast v534
  let c0_363 : Index := 0#32
  ![v555.toNat, 0]
def k0_mult13 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let c64_i32_365 : BitVec 32 := 64#32
  let v561 : BitVec 32 := Scalar.xori v559 c64_i32_365
  v561
def k0_mult14 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  v559
def k0_off13 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c0_i32_371 : BitVec 32 := 0#32
  ![v563.toNat, 0]
def k0_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_364 : BitVec 32 := 4#32
  let v560 : BitVec 32 := Scalar.xori v2 c4_i32_364
  let c1_i32_368 : BitVec 32 := 1#32
  let v564 : BitVec 32 := Scalar.muli v560 c1_i32_368
  let v565 : BitVec 32 := Scalar.addi c0_i32_369 v564
  v565.toNat
def k0_off14 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let c64_i32_365 : BitVec 32 := 64#32
  let v561 : BitVec 32 := Scalar.xori v559 c64_i32_365
  let v562 : BitVec 32 := v561
  let v583 : Index := Scalar.indexCast v562
  let c0_386 : Index := 0#32
  ![v583.toNat, 0]
def k0_mult15 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let c128_i32_388 : BitVec 32 := 128#32
  let v589 : BitVec 32 := Scalar.xori v587 c128_i32_388
  v589
def k0_mult16 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  v587
def k0_off15 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c0_i32_394 : BitVec 32 := 0#32
  ![v591.toNat, 0]
def k0_dev13 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_387 : BitVec 32 := 8#32
  let v588 : BitVec 32 := Scalar.xori v2 c8_i32_387
  let c1_i32_391 : BitVec 32 := 1#32
  let v592 : BitVec 32 := Scalar.muli v588 c1_i32_391
  let v593 : BitVec 32 := Scalar.addi c0_i32_392 v592
  v593.toNat
def k0_off16 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let c128_i32_388 : BitVec 32 := 128#32
  let v589 : BitVec 32 := Scalar.xori v587 c128_i32_388
  let v590 : BitVec 32 := v589
  let v611 : Index := Scalar.indexCast v590
  let c0_409 : Index := 0#32
  ![v611.toNat, 0]
def k0_mult17 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let c256_i32_411 : BitVec 32 := 256#32
  let v617 : BitVec 32 := Scalar.xori v615 c256_i32_411
  v617
def k0_mult18 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  v615
def k0_off17 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let v619 : BitVec 32 := v615
  let c0_i32_417 : BitVec 32 := 0#32
  ![v619.toNat, 0]
def k0_dev14 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_410 : BitVec 32 := 2#32
  let v616 : BitVec 32 := Scalar.xori v2 c2_i32_410
  let c1_i32_414 : BitVec 32 := 1#32
  let v620 : BitVec 32 := Scalar.muli v616 c1_i32_414
  let v621 : BitVec 32 := Scalar.addi c0_i32_415 v620
  v621.toNat
def k0_off18 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let c256_i32_411 : BitVec 32 := 256#32
  let v617 : BitVec 32 := Scalar.xori v615 c256_i32_411
  let v618 : BitVec 32 := v617
  let v639 : Index := Scalar.indexCast v618
  let c0_432 : Index := 0#32
  ![v639.toNat, 0]
def k0_mult19 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let v619 : BitVec 32 := v615
  let c_m257_i32 : BitVec 32 := 4294967039#32
  let v643 : BitVec 32 := Scalar.andi v619 c_m257_i32
  let c512_i32_434 : BitVec 32 := 512#32
  let v645 : BitVec 32 := Scalar.xori v643 c512_i32_434
  v645
def k0_mult20 (d0 : Dev nD) : BitVec 32 :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let v619 : BitVec 32 := v615
  let c_m257_i32 : BitVec 32 := 4294967039#32
  let v643 : BitVec 32 := Scalar.andi v619 c_m257_i32
  v643
def k0_off19 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let v619 : BitVec 32 := v615
  let c_m257_i32 : BitVec 32 := 4294967039#32
  let v643 : BitVec 32 := Scalar.andi v619 c_m257_i32
  let v647 : BitVec 32 := v643
  let c0_i32_440 : BitVec 32 := 0#32
  ![v647.toNat, 0]
def k0_dev15 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_433 : BitVec 32 := 1#32
  let v644 : BitVec 32 := Scalar.xori v2 c1_i32_433
  let c1_i32_437 : BitVec 32 := 1#32
  let v648 : BitVec 32 := Scalar.muli v644 c1_i32_437
  let v649 : BitVec 32 := Scalar.addi c0_i32_438 v648
  v649.toNat
def k0_off20 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_143 : BitVec 32 := 0#32
  let v228 : BitVec 1 := Scalar.cmpi .sgt v2 c0_i32_143
  let v229 : BitVec 32 := Scalar.extui v228
  let c0_i32_144 : BitVec 32 := 0#32
  let v230 : BitVec 1 := Scalar.cmpi .slt v2 c0_i32_144
  let v231 : BitVec 32 := Scalar.extui v230
  let v232 : BitVec 32 := Scalar.subi v229 v231
  let c1_i32_142 : BitVec 32 := 1#32
  let c0_i32_145 : BitVec 32 := 0#32
  let v233 : BitVec 1 := Scalar.cmpi .sgt c1_i32_142 c0_i32_145
  let v234 : BitVec 32 := Scalar.extui v233
  let c0_i32_146 : BitVec 32 := 0#32
  let v235 : BitVec 1 := Scalar.cmpi .slt c1_i32_142 c0_i32_146
  let v236 : BitVec 32 := Scalar.extui v235
  let v237 : BitVec 32 := Scalar.subi v234 v236
  let v238 : BitVec 1 := Scalar.cmpi .ne v232 v237
  let v239 : BitVec 32 := Scalar.remsi v2 c1_i32_142
  let c0_i32_147 : BitVec 32 := 0#32
  let v240 : BitVec 1 := Scalar.cmpi .ne v239 c0_i32_147
  let v241 : BitVec 1 := Scalar.andi v238 v240
  let v227 : BitVec 32 := Scalar.divsi v2 c1_i32_142
  let c1_i32_148 : BitVec 32 := 1#32
  let v242 : BitVec 32 := Scalar.subi v227 c1_i32_148
  let v243 : BitVec 32 := Scalar.select v241 v242 v227
  let c2_i32_149 : BitVec 32 := 2#32
  let c0_i32_150 : BitVec 32 := 0#32
  let v244 : BitVec 1 := Scalar.cmpi .eq c2_i32_149 c0_i32_150
  let c1_i32_151 : BitVec 32 := 1#32
  let v245 : BitVec 32 := Scalar.select v244 c1_i32_151 c2_i32_149
  let v246 : BitVec 32 := Scalar.remsi v243 v245
  let c0_i32_153 : BitVec 32 := 0#32
  let v248 : BitVec 1 := Scalar.cmpi .slt v246 c0_i32_153
  let c0_i32_154 : BitVec 32 := 0#32
  let v249 : BitVec 1 := Scalar.cmpi .slt v245 c0_i32_154
  let v250 : BitVec 1 := Scalar.xori v248 v249
  let c0_i32_152 : BitVec 32 := 0#32
  let v247 : BitVec 1 := Scalar.cmpi .ne v246 c0_i32_152
  let v251 : BitVec 1 := Scalar.andi v250 v247
  let v252 : BitVec 32 := Scalar.addi v246 v245
  let v253 : BitVec 32 := Scalar.select v251 v252 v246
  let c512_i32_158 : BitVec 32 := 512#32
  let v259 : BitVec 32 := Scalar.muli v253 c512_i32_158
  let v260 : BitVec 32 := Scalar.addi c0_i32_159 v259
  let v261 : BitVec 32 := v260
  let c0_i32_185 : BitVec 32 := 0#32
  let v289 : BitVec 1 := Scalar.cmpi .sgt v2 c0_i32_185
  let v290 : BitVec 32 := Scalar.extui v289
  let c0_i32_186 : BitVec 32 := 0#32
  let v291 : BitVec 1 := Scalar.cmpi .slt v2 c0_i32_186
  let v292 : BitVec 32 := Scalar.extui v291
  let v293 : BitVec 32 := Scalar.subi v290 v292
  let c2_i32_184 : BitVec 32 := 2#32
  let c0_i32_187 : BitVec 32 := 0#32
  let v294 : BitVec 1 := Scalar.cmpi .sgt c2_i32_184 c0_i32_187
  let v295 : BitVec 32 := Scalar.extui v294
  let c0_i32_188 : BitVec 32 := 0#32
  let v296 : BitVec 1 := Scalar.cmpi .slt c2_i32_184 c0_i32_188
  let v297 : BitVec 32 := Scalar.extui v296
  let v298 : BitVec 32 := Scalar.subi v295 v297
  let v299 : BitVec 1 := Scalar.cmpi .ne v293 v298
  let v300 : BitVec 32 := Scalar.remsi v2 c2_i32_184
  let c0_i32_189 : BitVec 32 := 0#32
  let v301 : BitVec 1 := Scalar.cmpi .ne v300 c0_i32_189
  let v302 : BitVec 1 := Scalar.andi v299 v301
  let v288 : BitVec 32 := Scalar.divsi v2 c2_i32_184
  let c1_i32_190 : BitVec 32 := 1#32
  let v303 : BitVec 32 := Scalar.subi v288 c1_i32_190
  let v304 : BitVec 32 := Scalar.select v302 v303 v288
  let c2_i32_191 : BitVec 32 := 2#32
  let c0_i32_192 : BitVec 32 := 0#32
  let v305 : BitVec 1 := Scalar.cmpi .eq c2_i32_191 c0_i32_192
  let c1_i32_193 : BitVec 32 := 1#32
  let v306 : BitVec 32 := Scalar.select v305 c1_i32_193 c2_i32_191
  let v307 : BitVec 32 := Scalar.remsi v304 v306
  let c0_i32_195 : BitVec 32 := 0#32
  let v309 : BitVec 1 := Scalar.cmpi .slt v307 c0_i32_195
  let c0_i32_196 : BitVec 32 := 0#32
  let v310 : BitVec 1 := Scalar.cmpi .slt v306 c0_i32_196
  let v311 : BitVec 1 := Scalar.xori v309 v310
  let c0_i32_194 : BitVec 32 := 0#32
  let v308 : BitVec 1 := Scalar.cmpi .ne v307 c0_i32_194
  let v312 : BitVec 1 := Scalar.andi v311 v308
  let v313 : BitVec 32 := Scalar.addi v307 v306
  let v314 : BitVec 32 := Scalar.select v312 v313 v307
  let c256_i32_199 : BitVec 32 := 256#32
  let v320 : BitVec 32 := Scalar.muli v314 c256_i32_199
  let v321 : BitVec 32 := Scalar.addi v261 v320
  let v322 : BitVec 32 := v321
  let c0_i32_225 : BitVec 32 := 0#32
  let v350 : BitVec 1 := Scalar.cmpi .sgt v2 c0_i32_225
  let v351 : BitVec 32 := Scalar.extui v350
  let c0_i32_226 : BitVec 32 := 0#32
  let v352 : BitVec 1 := Scalar.cmpi .slt v2 c0_i32_226
  let v353 : BitVec 32 := Scalar.extui v352
  let v354 : BitVec 32 := Scalar.subi v351 v353
  let c8_i32_224 : BitVec 32 := 8#32
  let c0_i32_227 : BitVec 32 := 0#32
  let v355 : BitVec 1 := Scalar.cmpi .sgt c8_i32_224 c0_i32_227
  let v356 : BitVec 32 := Scalar.extui v355
  let c0_i32_228 : BitVec 32 := 0#32
  let v357 : BitVec 1 := Scalar.cmpi .slt c8_i32_224 c0_i32_228
  let v358 : BitVec 32 := Scalar.extui v357
  let v359 : BitVec 32 := Scalar.subi v356 v358
  let v360 : BitVec 1 := Scalar.cmpi .ne v354 v359
  let v361 : BitVec 32 := Scalar.remsi v2 c8_i32_224
  let c0_i32_229 : BitVec 32 := 0#32
  let v362 : BitVec 1 := Scalar.cmpi .ne v361 c0_i32_229
  let v363 : BitVec 1 := Scalar.andi v360 v362
  let v349 : BitVec 32 := Scalar.divsi v2 c8_i32_224
  let c1_i32_230 : BitVec 32 := 1#32
  let v364 : BitVec 32 := Scalar.subi v349 c1_i32_230
  let v365 : BitVec 32 := Scalar.select v363 v364 v349
  let c2_i32_231 : BitVec 32 := 2#32
  let c0_i32_232 : BitVec 32 := 0#32
  let v366 : BitVec 1 := Scalar.cmpi .eq c2_i32_231 c0_i32_232
  let c1_i32_233 : BitVec 32 := 1#32
  let v367 : BitVec 32 := Scalar.select v366 c1_i32_233 c2_i32_231
  let v368 : BitVec 32 := Scalar.remsi v365 v367
  let c0_i32_235 : BitVec 32 := 0#32
  let v370 : BitVec 1 := Scalar.cmpi .slt v368 c0_i32_235
  let c0_i32_236 : BitVec 32 := 0#32
  let v371 : BitVec 1 := Scalar.cmpi .slt v367 c0_i32_236
  let v372 : BitVec 1 := Scalar.xori v370 v371
  let c0_i32_234 : BitVec 32 := 0#32
  let v369 : BitVec 1 := Scalar.cmpi .ne v368 c0_i32_234
  let v373 : BitVec 1 := Scalar.andi v372 v369
  let v374 : BitVec 32 := Scalar.addi v368 v367
  let v375 : BitVec 32 := Scalar.select v373 v374 v368
  let c128_i32_240 : BitVec 32 := 128#32
  let v381 : BitVec 32 := Scalar.muli v375 c128_i32_240
  let v382 : BitVec 32 := Scalar.addi v322 v381
  let v383 : BitVec 32 := v382
  let c0_i32_265 : BitVec 32 := 0#32
  let v411 : BitVec 1 := Scalar.cmpi .sgt v2 c0_i32_265
  let v412 : BitVec 32 := Scalar.extui v411
  let c0_i32_266 : BitVec 32 := 0#32
  let v413 : BitVec 1 := Scalar.cmpi .slt v2 c0_i32_266
  let v414 : BitVec 32 := Scalar.extui v413
  let v415 : BitVec 32 := Scalar.subi v412 v414
  let c4_i32_264 : BitVec 32 := 4#32
  let c0_i32_267 : BitVec 32 := 0#32
  let v416 : BitVec 1 := Scalar.cmpi .sgt c4_i32_264 c0_i32_267
  let v417 : BitVec 32 := Scalar.extui v416
  let c0_i32_268 : BitVec 32 := 0#32
  let v418 : BitVec 1 := Scalar.cmpi .slt c4_i32_264 c0_i32_268
  let v419 : BitVec 32 := Scalar.extui v418
  let v420 : BitVec 32 := Scalar.subi v417 v419
  let v421 : BitVec 1 := Scalar.cmpi .ne v415 v420
  let v422 : BitVec 32 := Scalar.remsi v2 c4_i32_264
  let c0_i32_269 : BitVec 32 := 0#32
  let v423 : BitVec 1 := Scalar.cmpi .ne v422 c0_i32_269
  let v424 : BitVec 1 := Scalar.andi v421 v423
  let v410 : BitVec 32 := Scalar.divsi v2 c4_i32_264
  let c1_i32_270 : BitVec 32 := 1#32
  let v425 : BitVec 32 := Scalar.subi v410 c1_i32_270
  let v426 : BitVec 32 := Scalar.select v424 v425 v410
  let c2_i32_271 : BitVec 32 := 2#32
  let c0_i32_272 : BitVec 32 := 0#32
  let v427 : BitVec 1 := Scalar.cmpi .eq c2_i32_271 c0_i32_272
  let c1_i32_273 : BitVec 32 := 1#32
  let v428 : BitVec 32 := Scalar.select v427 c1_i32_273 c2_i32_271
  let v429 : BitVec 32 := Scalar.remsi v426 v428
  let c0_i32_275 : BitVec 32 := 0#32
  let v431 : BitVec 1 := Scalar.cmpi .slt v429 c0_i32_275
  let c0_i32_276 : BitVec 32 := 0#32
  let v432 : BitVec 1 := Scalar.cmpi .slt v428 c0_i32_276
  let v433 : BitVec 1 := Scalar.xori v431 v432
  let c0_i32_274 : BitVec 32 := 0#32
  let v430 : BitVec 1 := Scalar.cmpi .ne v429 c0_i32_274
  let v434 : BitVec 1 := Scalar.andi v433 v430
  let v435 : BitVec 32 := Scalar.addi v429 v428
  let v436 : BitVec 32 := Scalar.select v434 v435 v429
  let c64_i32_279 : BitVec 32 := 64#32
  let v442 : BitVec 32 := Scalar.muli v436 c64_i32_279
  let v443 : BitVec 32 := Scalar.addi v383 v442
  let v444 : BitVec 32 := v443
  let c0_i32_303 : BitVec 32 := 0#32
  let v472 : BitVec 1 := Scalar.cmpi .sgt v2 c0_i32_303
  let v473 : BitVec 32 := Scalar.extui v472
  let c0_i32_304 : BitVec 32 := 0#32
  let v474 : BitVec 1 := Scalar.cmpi .slt v2 c0_i32_304
  let v475 : BitVec 32 := Scalar.extui v474
  let v476 : BitVec 32 := Scalar.subi v473 v475
  let c16_i32_302 : BitVec 32 := 16#32
  let c0_i32_305 : BitVec 32 := 0#32
  let v477 : BitVec 1 := Scalar.cmpi .sgt c16_i32_302 c0_i32_305
  let v478 : BitVec 32 := Scalar.extui v477
  let c0_i32_306 : BitVec 32 := 0#32
  let v479 : BitVec 1 := Scalar.cmpi .slt c16_i32_302 c0_i32_306
  let v480 : BitVec 32 := Scalar.extui v479
  let v481 : BitVec 32 := Scalar.subi v478 v480
  let v482 : BitVec 1 := Scalar.cmpi .ne v476 v481
  let v483 : BitVec 32 := Scalar.remsi v2 c16_i32_302
  let c0_i32_307 : BitVec 32 := 0#32
  let v484 : BitVec 1 := Scalar.cmpi .ne v483 c0_i32_307
  let v485 : BitVec 1 := Scalar.andi v482 v484
  let v471 : BitVec 32 := Scalar.divsi v2 c16_i32_302
  let c1_i32_308 : BitVec 32 := 1#32
  let v486 : BitVec 32 := Scalar.subi v471 c1_i32_308
  let v487 : BitVec 32 := Scalar.select v485 v486 v471
  let c2_i32_309 : BitVec 32 := 2#32
  let c0_i32_310 : BitVec 32 := 0#32
  let v488 : BitVec 1 := Scalar.cmpi .eq c2_i32_309 c0_i32_310
  let c1_i32_311 : BitVec 32 := 1#32
  let v489 : BitVec 32 := Scalar.select v488 c1_i32_311 c2_i32_309
  let v490 : BitVec 32 := Scalar.remsi v487 v489
  let c0_i32_313 : BitVec 32 := 0#32
  let v492 : BitVec 1 := Scalar.cmpi .slt v490 c0_i32_313
  let c0_i32_314 : BitVec 32 := 0#32
  let v493 : BitVec 1 := Scalar.cmpi .slt v489 c0_i32_314
  let v494 : BitVec 1 := Scalar.xori v492 v493
  let c0_i32_312 : BitVec 32 := 0#32
  let v491 : BitVec 1 := Scalar.cmpi .ne v490 c0_i32_312
  let v495 : BitVec 1 := Scalar.andi v494 v491
  let v496 : BitVec 32 := Scalar.addi v490 v489
  let v497 : BitVec 32 := Scalar.select v495 v496 v490
  let c32_i32_318 : BitVec 32 := 32#32
  let v503 : BitVec 32 := Scalar.muli v497 c32_i32_318
  let v504 : BitVec 32 := Scalar.addi v444 v503
  let v505 : BitVec 32 := v504
  let v535 : BitVec 32 := v505
  let c_m33_i32 : BitVec 32 := 4294967263#32
  let v559 : BitVec 32 := Scalar.andi v535 c_m33_i32
  let v563 : BitVec 32 := v559
  let c_m65_i32 : BitVec 32 := 4294967231#32
  let v587 : BitVec 32 := Scalar.andi v563 c_m65_i32
  let v591 : BitVec 32 := v587
  let c_m129_i32 : BitVec 32 := 4294967167#32
  let v615 : BitVec 32 := Scalar.andi v591 c_m129_i32
  let v619 : BitVec 32 := v615
  let c_m257_i32 : BitVec 32 := 4294967039#32
  let v643 : BitVec 32 := Scalar.andi v619 c_m257_i32
  let c512_i32_434 : BitVec 32 := 512#32
  let v645 : BitVec 32 := Scalar.xori v643 c512_i32_434
  let v646 : BitVec 32 := v645
  let v667 : Index := Scalar.indexCast v646
  let c0_455 : Index := 0#32
  ![v667.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x256x1024x1024, .f32⟩
  | .hbm, ⟨29, _⟩ => ⟨S_, .f32⟩
  | .hbm, ⟨30, _⟩ => ⟨S1x256x1024x1024, .f32⟩
  | .hbm, ⟨31, _⟩ => ⟨S1x256x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S1x256x1024x1024, .i1⟩
  | .hbm, ⟨36, _⟩ => ⟨S1x256x1024x1024, .f32⟩
  | .hbm, ⟨37, _⟩ => ⟨S1x256x1024x1024, .f32⟩
  | .hbm, ⟨38, _⟩ => ⟨S_, .f32⟩
  | .hbm, ⟨39, _⟩ => ⟨S1x256x1024, .f32⟩
  | .hbm, ⟨40, _⟩ => ⟨S1x256x1024x1, .f32⟩
  | .hbm, ⟨41, _⟩ => ⟨S1x256x1024x1024, .f32⟩
  | .hbm, ⟨42, _⟩ => ⟨S1x256x1024x1024, .f32⟩
  | .hbm, ⟨43, _⟩ => ⟨S1x256x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x256x1024, .f32⟩
  | .hbm, ⟨49, _⟩ => ⟨S1x256x1024x1, .f32⟩
  | .hbm, ⟨50, _⟩ => ⟨S_, .f32⟩
  | .hbm, ⟨51, _⟩ => ⟨S_, .f32⟩
  | .hbm, ⟨52, _⟩ => ⟨S1x256x1024x1, .i1⟩
  | .hbm, ⟨53, _⟩ => ⟨S1x256x1024x1, .f32⟩
  | .hbm, ⟨54, _⟩ => ⟨S1x256x1024x1, .f32⟩
  | .hbm, ⟨55, _⟩ => ⟨S1x256x1024x1024, .f32⟩
  | .hbm, ⟨56, _⟩ => ⟨S1x256x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x256x1024x1024, .i1⟩
  | .hbm, ⟨61, _⟩ => ⟨S1x256x1024x1024, .f32⟩
  | .hbm, ⟨62, _⟩ => ⟨S1x256x1024x1024, .f32⟩
  | .hbm, ⟨63, _⟩ => ⟨S1x256x128x1024, .f32⟩
  | .hbm, ⟨64, _⟩ => ⟨S1x1024x256x128, .f32⟩
  | .hbm, ⟨65, _⟩ => ⟨S1x1024x32768, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Geom.lean ====
/- The geometry of the ten transfers: for transfer `t` the partner, the rows sent, the rows the
   landing is folded into, the slot of the exchange buffer, and the accumulator after `t`
   transfers as a plain function of what every device started from. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Value
public import Idealize.ShloMosaic.Lib.ValueIdxCore

@[expose] public section

noncomputable section

namespace Cert.KernelIdeal.Xchg

open Cert.KernelIdeal
open Idealize.ShloMosaic Idealize.ShloMosaic.TcCoe Idealize.ShloMosaic.ValueIdx

variable {F : FTy → Type} [FloatOps F]

/-! ### Partners and rows -/

/-- The distance of transfer `t`'s partner. -/
def DT : Fin 10 → ℕ := ![1, 2, 8, 4, 16, 16, 4, 8, 2, 1]
/-- The rows transfer `t` moves. -/
def nR : Fin 10 → ℕ := ![512, 256, 128, 64, 32, 32, 64, 128, 256, 512]
/-- The first row of transfer `t`'s slot of the exchange buffer. -/
def SO : Fin 10 → ℕ := ![0, 512, 768, 896, 960, 1024, 1056, 1120, 1248, 1504]

/-- Transfer `t`'s partner of device `c`. -/
def par (t : Fin 10) (c : Dev nD) : Dev nD := ⟨(c.val ^^^ DT t) % 32, Nat.mod_lt _ (by decide)⟩

/-- The bit of `c` that reduce step `s` looks at. -/
def bit (s : Fin 10) (c : Dev nD) : ℕ := c.val / DT s % 2

/-- The first row device `c` still answers for when `s` reduce steps are done. -/
def base (s : ℕ) (c : Dev nD) : ℕ := ((List.finRange 10).take s).foldr (fun u b => bit u c * nR u + b) 0

/-- The first row transfer `t` reads on device `c`. -/
def so (t : Fin 10) (c : Dev nD) : ℕ :=
  if t.val < 5 then base t.val c + (1 - bit t c) * nR t else base (10 - t.val) c

/-- The first row of the block transfer `t`'s landing is folded into on device `c`. -/
def ko (t : Fin 10) (c : Dev nD) : ℕ :=
  if t.val < 5 then base (t.val + 1) c else base (9 - t.val) c + (1 - bit t c) * nR t

theorem par_par : ∀ (t : Fin 10) (c : Dev nD), par t (par t c) = c := by decide +kernel
theorem par_ne : ∀ (t : Fin 10) (c : Dev nD), par t c ≠ c := by decide +kernel
theorem so_par : ∀ (t : Fin 10) (c : Dev nD), so t (par t c) = ko t c := by decide +kernel
theorem ko_par : ∀ (t : Fin 10) (c : Dev nD), ko t (par t c) = so t c := by decide +kernel
theorem so_le : ∀ (t : Fin 10) (c : Dev nD), so t c + nR t ≤ 1024 := by decide +kernel
theorem ko_le : ∀ (t : Fin 10) (c : Dev nD), ko t c + nR t ≤ 1024 := by decide +kernel
theorem SO_le : ∀ t : Fin 10, SO t + nR t ≤ 2048 := by decide
theorem par_rev : ∀ (t : Fin 10) (c : Dev nD), par t.rev c = par t c := by decide +kernel

/-! ### The printed offsets and destinations in closed form -/

set_option maxRecDepth 100000 in
theorem off_facts : ∀ c : Dev nD,
    (k0_off1 c = ![so 0 c, 0] ∧ k0_off3 c = ![so 1 c, 0] ∧ k0_off5 c = ![so 2 c, 0] ∧ k0_off7 c = ![so 3 c, 0]
      ∧ k0_off9 c = ![so 4 c, 0] ∧ k0_off11 c = ![so 5 c, 0] ∧ k0_off13 c = ![so 6 c, 0] ∧ k0_off15 c = ![so 7 c, 0]
      ∧ k0_off17 c = ![so 8 c, 0] ∧ k0_off19 c = ![so 9 c, 0])
    ∧ (k0_off2 c = ![ko 0 c, 0] ∧ k0_off4 c = ![ko 1 c, 0] ∧ k0_off6 c = ![ko 2 c, 0] ∧ k0_off8 c = ![ko 3 c, 0]
      ∧ k0_off10 c = ![ko 4 c, 0] ∧ k0_off12 c = ![ko 5 c, 0] ∧ k0_off14 c = ![ko 6 c, 0] ∧ k0_off16 c = ![ko 7 c, 0]
      ∧ k0_off18 c = ![ko 8 c, 0] ∧ k0_off20 c = ![ko 9 c, 0]) := by decide +kernel

set_option maxRecDepth 100000 in
theorem dev_facts : ∀ c : Dev nD,
    ((⟨k0_dev1 c, Facts₀.k0_dev1_lt c⟩ : Dev nD) = par 0 c ∧ (⟨k0_dev2 c, Facts₀.k0_dev2_lt c⟩ : Dev nD) = par 1 c
      ∧ (⟨k0_dev3 c, Facts₀.k0_dev3_lt c⟩ : Dev nD) = par 2 c ∧ (⟨k0_dev4 c, Facts₀.k0_dev4_lt c⟩ : Dev nD) = par 3 c
      ∧ (⟨k0_dev5 c, Facts₀.k0_dev5_lt c⟩ : Dev nD) = par 4 c)
    ∧ ((⟨k0_dev6 c, Facts₀.k0_dev6_lt c⟩ : Dev nD) = par 0 c ∧ (⟨k0_dev7 c, Facts₀.k0_dev7_lt c⟩ : Dev nD) = par 1 c
      ∧ (⟨k0_dev8 c, Facts₀.k0_dev8_lt c⟩ : Dev nD) = par 2 c ∧ (⟨k0_dev9 c, Facts₀.k0_dev9_lt c⟩ : Dev nD) = par 3 c
      ∧ (⟨k0_dev10 c, Facts₀.k0_dev10_lt c⟩ : Dev nD) = par 4 c ∧ (⟨k0_dev11 c, Facts₀.k0_dev11_lt c⟩ : Dev nD) = par 5 c
      ∧ (⟨k0_dev12 c, Facts₀.k0_dev12_lt c⟩ : Dev nD) = par 6 c ∧ (⟨k0_dev13 c, Facts₀.k0_dev13_lt c⟩ : Dev nD) = par 7 c
      ∧ (⟨k0_dev14 c, Facts₀.k0_dev14_lt c⟩ : Dev nD) = par 8 c ∧ (⟨k0_dev15 c, Facts₀.k0_dev15_lt c⟩ : Dev nD) = par 9 c) := by decide +kernel

/-! ### The two buffers -/

/-- The accumulator and the exchange buffer. -/
abbrev aB : Ref sig .tc := cc0_scratch1
abbrev xB : Ref sig .tc := cc0_scratch2

/-- What the accumulator and the exchange buffer hold. -/
abbrev AccC (F : FTy → Type) : Type := FVec F S1024x1024 .f32
abbrev ComC (F : FTy → Type) : Type := FVec F S2048x1024 .f32

/-- `n` whole rows of the accumulator from row `o`. -/
def accSet (o n : ℕ) : Finset S1024x1024.Idx := Finset.univ.filter fun i => o ≤ (i 0).val ∧ (i 0).val < o + n
/-- `n` whole rows of the exchange buffer from row `o`. -/
def comSet (o n : ℕ) : Finset S2048x1024.Idx := Finset.univ.filter fun i => o ≤ (i 0).val ∧ (i 0).val < o + n

theorem mem_accSet {o n : ℕ} {i : S1024x1024.Idx} : i ∈ accSet o n ↔ o ≤ (i 0).val ∧ (i 0).val < o + n := by
  simp [accSet]
theorem mem_comSet {o n : ℕ} {i : S2048x1024.Idx} : i ∈ comSet o n ↔ o ≤ (i 0).val ∧ (i 0).val < o + n := by
  simp [comSet]

/-- The rows `[o, o + n)` as a rectangle of the accumulator. -/
abbrev accR (o n : ℕ) (inb : ∀ a, (![o, 0] : Fin 2 → ℕ) a + (⟨2, ![n, 1024]⟩ : Shape).size a ≤ S1024x1024.size a) : Rect S1024x1024 :=
  Rect.unit (s := S1024x1024) ![o, 0] (⟨2, ![n, 1024]⟩ : Shape).size inb
/-- The rows `[o, o + n)` as a rectangle of the exchange buffer. -/
abbrev comR (o n : ℕ) (inb : ∀ a, (![o, 0] : Fin 2 → ℕ) a + (⟨2, ![n, 1024]⟩ : Shape).size a ≤ S2048x1024.size a) : Rect S2048x1024 :=
  Rect.unit (s := S2048x1024) ![o, 0] (⟨2, ![n, 1024]⟩ : Shape).size inb

theorem accR_set {o n : ℕ} {inb} : (accR o n inb).set = accSet o n := by
  ext i
  rw [Rect.mem_set_unit, mem_accSet]
  constructor
  · intro h; exact h 0
  · intro h a
    match a with
    | 0 => exact h
    | 1 => exact ⟨Nat.zero_le _, by show (i 1).val < 0 + 1024; have := (i 1).isLt; exact (Nat.zero_add 1024).symm ▸ this⟩

theorem comR_set {o n : ℕ} {inb} : (comR o n inb).set = comSet o n := by
  ext i
  rw [Rect.mem_set_unit, mem_comSet]
  constructor
  · intro h; exact h 0
  · intro h a
    match a with
    | 0 => exact h
    | 1 => exact ⟨Nat.zero_le _, by show (i 1).val < 0 + 1024; have := (i 1).isLt; exact (Nat.zero_add 1024).symm ▸ this⟩

/-! ### The accumulator after each transfer -/

/-- The row of the accumulator that row `r` of transfer `t`'s slot was sent from. -/
def rowOf (t : Fin 10) (c : Dev nD) (i : S2048x1024.Idx) : S1024x1024.Idx :=
  ix2 (n0 := 1024) (n1 := 1024) ⟨(ko t c + ((i 0).val - SO t)) % 1024, Nat.mod_lt _ (by decide)⟩ (i 1)

/-- Transfer `t`'s landing on device `c`, from accumulators `f`. -/
def landed (t : Fin 10) (f : Dev nD → AccC F) (c : Dev nD) : ComC F := fun i => f (par t c) (rowOf t c i)

/-- One transfer's effect on the accumulators. -/
def stepAcc (t : Fin 10) (f : Dev nD → AccC F) : Dev nD → AccC F := fun c i =>
  if ko t c ≤ (i 0).val ∧ (i 0).val < ko t c + nR t then
    if t.val < 5 then FloatOps.addf (f c i) (f (par t c) i) else f (par t c) i
  else f c i

/-- The accumulators after `t` transfers, from `f`. -/
def accAt (f : Dev nD → AccC F) : ℕ → Dev nD → AccC F
  | 0 => f
  | t + 1 => stepAcc ⟨t % 10, Nat.mod_lt _ (by decide)⟩ (accAt f t)

theorem accAt_succ (f : Dev nD → AccC F) (t : Fin 10) : accAt f (t.val + 1) = stepAcc t (accAt f t.val) := by
  have : (⟨t.val % 10, Nat.mod_lt _ (by decide)⟩ : Fin 10) = t := Fin.ext (Nat.mod_eq_of_lt t.isLt)
  show stepAcc _ _ = _
  rw [this]

end Cert.KernelIdeal.Xchg
end
-- ==== Proof.Talk.lean ====
/- The exchange's protocol: one barrier cell, ten send cells and ten receive cells per device; who pays
   which duty, how much, and what each landing hands over. Every cell has the one round 0.

   barrier cell of `c`  : five duties of one unit; duty `s` is paid by partner `par s c`, which hands over
                          its own two slots that `c` will write (transfers `s` and `9 - s`), at whatever
                          they hold, and that its receive cells for them are open;
   send cell `t` of `c` : paid by `c`'s own copy, hands back the rows it read;
   receive cell `t`     : paid by the partner's copy, hands over `c`'s slot at what landed. -/
module

public import proofs.«01_k».proof.Proof.Geom
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ### Cells -/

/-- The send and receive semaphores of transfer `t`: the reduce steps use the first two arrays in order,
    the gather steps the last two in reverse. -/
def sndS : Fin 10 → DmaSem sig := ![6, 7, 8, 9, 10, 20, 19, 18, 17, 16]
def rcvS : Fin 10 → DmaSem sig := ![11, 12, 13, 14, 15, 25, 24, 23, 22, 21]

abbrev barCell (c : Dev nD) : GSem nD τ sig := ((c : Thread nD τ), .reg barrier0)
abbrev sndCell (t : Fin 10) (c : Dev nD) : GSem nD τ sig := ((c : Thread nD τ), .dma (sndS t))
abbrev rcvCell (t : Fin 10) (c : Dev nD) : GSem nD τ sig := ((c : Thread nD τ), .dma (rcvS t))

/-- What a semaphore is to the protocol. -/
inductive Role
  | bar | snd (t : Fin 10) | rcv (t : Fin 10) | other
  deriving DecidableEq

def roleD : Fin 26 → Role := ![.other, .other, .other, .other, .other, .other,
  .snd 0, .snd 1, .snd 2, .snd 3, .snd 4, .rcv 0, .rcv 1, .rcv 2, .rcv 3, .rcv 4,
  .snd 9, .snd 8, .snd 7, .snd 6, .snd 5, .rcv 9, .rcv 8, .rcv 7, .rcv 6, .rcv 5]

def role : SemLoc sig → Role
  | .reg s => if s = barrier0 then .bar else .other
  | .dma k => roleD k

theorem role_bar : role (.reg barrier0) = .bar := by decide
theorem role_snd : ∀ t : Fin 10, role (.dma (sndS t)) = .snd t := by decide
theorem role_rcv : ∀ t : Fin 10, role (.dma (rcvS t)) = .rcv t := by decide

/-! ### The memrefs and what they hold -/

abbrev aM : Memref sig .tc .vmem S1024x1024 .f32 := Memref.whole cc0_scratch1
abbrev xM : Memref sig .tc .vmem S2048x1024 .f32 := Memref.whole cc0_scratch2

theorem slot_inb (t : Fin 10) : ∀ a, (![SO t, 0] : Fin 2 → ℕ) a + (⟨2, ![nR t, 1024]⟩ : Shape).size a ≤ S2048x1024.size a := by
  intro a
  match a with
  | 0 => exact SO_le t
  | 1 => exact Nat.le_refl _

/-- Transfer `t`'s slot. -/
abbrev slotM (t : Fin 10) : Memref sig .tc .vmem ⟨2, ![nR t, 1024]⟩ .f32 :=
  xM.slice (comR (SO t) (nR t) (slot_inb t)) (fun _ => rfl)

/-- What a landing of transfer `t` credits. -/
def NT (t : Fin 10) : ℕ := (slotM t).view.dmaCredit

theorem NT_pos (t : Fin 10) : 0 < NT t := View.dmaCredit_pos _ (by revert t; decide)

/-- Rows `[o, o + n)` of `c`'s accumulator; `c`'s slot `t`; the accumulator apart from those rows. -/
abbrev accP (c : Dev nD) (o n : ℕ) (f : AccC F) : sProp 𝕄 :=
  ((c : Thread nD τ).loc aB) ↦[accSet o n]{fullShare} (f : Buf (Elt F) ((c : Thread nD τ).loc aB))
abbrev slotP (t : Fin 10) (c : Dev nD) (f : ComC F) : sProp 𝕄 :=
  ((c : Thread nD τ).loc xB) ↦[comSet (SO t) (nR t)]{fullShare} (f : Buf (Elt F) ((c : Thread nD τ).loc xB))
abbrev accRest (c : Dev nD) (o n : ℕ) (f : AccC F) : sProp 𝕄 :=
  ((c : Thread nD τ).loc aB) ↦[Finset.univ \ accSet o n]{fullShare} (f : Buf (Elt F) ((c : Thread nD τ).loc aB))
abbrev accW (c : Dev nD) (f : AccC F) : sProp 𝕄 :=
  ((c : Thread nD τ).loc aB) ↦[Finset.univ]{fullShare} (f : Buf (Elt F) ((c : Thread nD τ).loc aB))

/-! ### The schedule -/

/-- Barrier duty `s` of `c`: from partner `par s c`. -/
def barPay (c : Dev nD) (s : Fin 5) : sProp 𝕄 :=
  let u : Fin 10 := ⟨s.val, by omega⟩
  let v : Fin 10 := ⟨9 - s.val, by omega⟩
  iprop(((∃ f, slotP u (par u c) f) ∗ reached ER (rcvCell u (par u c)) 0)
    ∗ ((∃ f, slotP v (par v c) f) ∗ reached ER (rcvCell v (par v c)) 0))
def sndPay (f : Dev nD → AccC F) (t : Fin 10) (c : Dev nD) : sProp 𝕄 := accP c (so t c) (nR t) (accAt f t.val c)
def rcvPay (f : Dev nD → AccC F) (t : Fin 10) (c : Dev nD) : sProp 𝕄 := slotP t c (landed t (accAt f t.val) c)

def talkRd (f : Dev nD → AccC F) : Rounds.Schedule (GSem nD τ sig) (Fin 5) 𝕄 where
  duties g r := if r = 0 ∧ g.1.2 = .tc then
      (match role g.2 with | .bar => Finset.univ | .snd _ => {0} | .rcv _ => {0} | .other => ∅) else ∅
  unitless _ := False
  amount g _ _ := match role g.2 with | .bar => 1 | .snd t => NT t | .rcv t => NT t | .other => 1
  payload g _ d := match role g.2 with
    | .bar => barPay g.1.1 d | .snd t => sndPay f t g.1.1 | .rcv t => rcvPay f t g.1.1 | .other => iprop(emp)
  amount_pos g _ _ _ := by
    cases h : role g.2 with
    | bar => exact Nat.one_pos
    | snd t => exact NT_pos t
    | rcv t => exact NT_pos t
    | other => exact Nat.one_pos

variable (f : Dev nD → AccC F)

instance talkRd_payload_storable (g : GSem nD τ sig) (r : ℕ) (d : Fin 5) :
    BI.Storable (upEmb : UEmb _ 𝕄) ((talkRd f).payload g r d) := by
  show BI.Storable upEmb (match role g.2 with
    | .bar => barPay g.1.1 d | .snd t => sndPay f t g.1.1 | .rcv t => rcvPay f t g.1.1 | .other => iprop(emp))
  unfold barPay sndPay rcvPay
  split <;> infer_instance

section Sched

variable (c : Dev nD) (t : Fin 10)

theorem duties_bar : (talkRd f).duties (barCell c) 0 = Finset.univ := by
  dsimp only [talkRd]; rw [if_pos ⟨rfl, rfl⟩, role_bar]
theorem duties_snd : (talkRd f).duties (sndCell t c) 0 = {0} := by
  dsimp only [talkRd]; rw [if_pos ⟨rfl, rfl⟩, role_snd]
theorem duties_rcv : (talkRd f).duties (rcvCell t c) 0 = {0} := by
  dsimp only [talkRd]; rw [if_pos ⟨rfl, rfl⟩, role_rcv]
theorem duties_later (g : GSem nD τ sig) : ∀ r, 1 ≤ r → (talkRd f).duties g r = ∅ :=
  fun r hr => by dsimp only [talkRd]; rw [if_neg (fun h => by omega)]

theorem amount_bar (d : Fin 5) : (talkRd f).amount (barCell c) 0 d = 1 := by dsimp only [talkRd]; rw [role_bar]
theorem amount_snd (d : Fin 5) : (talkRd f).amount (sndCell t c) 0 d = NT t := by dsimp only [talkRd]; rw [role_snd]
theorem amount_rcv (d : Fin 5) : (talkRd f).amount (rcvCell t c) 0 d = NT t := by dsimp only [talkRd]; rw [role_rcv]

theorem expect_bar : (talkRd f).expect (barCell c) 0 = 5 := by
  unfold Schedule.expect Schedule.amountOf; rw [duties_bar, Finset.sum_congr rfl fun d _ => amount_bar f c d]; rfl
theorem expect_snd : (talkRd f).expect (sndCell t c) 0 = NT t := by
  unfold Schedule.expect Schedule.amountOf; rw [duties_snd, Finset.sum_singleton, amount_snd]
theorem expect_rcv : (talkRd f).expect (rcvCell t c) 0 = NT t := by
  unfold Schedule.expect Schedule.amountOf; rw [duties_rcv, Finset.sum_singleton, amount_rcv]

theorem payload_bar (d : Fin 5) : (talkRd f).payload (barCell c) 0 d = barPay c d := by dsimp only [talkRd]; rw [role_bar]
theorem payload_snd (d : Fin 5) : (talkRd f).payload (sndCell t c) 0 d = sndPay f t c := by dsimp only [talkRd]; rw [role_snd]
theorem payload_rcv (d : Fin 5) : (talkRd f).payload (rcvCell t c) 0 d = rcvPay f t c := by dsimp only [talkRd]; rw [role_rcv]

theorem rest_bar : bigSep ((talkRd f).duties (barCell c) 0 \ ∅) (fun d => (talkRd f).payload (barCell c) 0 d)
    = bigSep Finset.univ fun s : Fin 5 => barPay (F := F) c s := by
  rw [Finset.sdiff_empty, duties_bar]; exact bigSep_congr fun d _ => payload_bar f c d
theorem rest_snd : bigSep ((talkRd f).duties (sndCell t c) 0 \ ∅) (fun d => (talkRd f).payload (sndCell t c) 0 d) = sndPay f t c := by
  rw [Finset.sdiff_empty, duties_snd, bigSep_singleton, payload_snd]
theorem rest_rcv : bigSep ((talkRd f).duties (rcvCell t c) 0 \ ∅) (fun d => (talkRd f).payload (rcvCell t c) 0 d) = rcvPay f t c := by
  rw [Finset.sdiff_empty, duties_rcv, bigSep_singleton, payload_rcv]

end Sched

/-! ### What each device owes, and the levels -/

/-- What is owed for a list of transfers still to send, and for a list of partners still to signal on top of `O`. -/
def owL (c : Dev nD) : List (Fin 10) → CellTallies nD τ sig Unit
  | [] => 0
  | t :: ts => owL c ts + tallyAt (rcvCell t (par t c)) () (NT t)
def obL (c : Dev nD) : List (Fin 5) → CellTallies nD τ sig Unit
  | [] => owL c (List.finRange 10)
  | s :: ss => obL c ss + tallyAt (barCell (par (Fin.castLE (by decide) s) c)) () 1

/-- What device `c` owes at launch. -/
def O₀ (c : Dev nD) : CellTallies nD τ sig Unit := obL c (List.finRange 5)
/-- What it owes with `j` transfers sent. -/
def owR (c : Dev nD) (j : ℕ) : CellTallies nD τ sig Unit := owL c ((List.finRange 10).drop j)

theorem owL_pos {c : Dev nD} {g : GSem nD τ sig} {u : Unit} : ∀ {l : List (Fin 10)}, 0 < owL c l g u → ∃ t ∈ l, g = rcvCell t (par t c)
  | [], h => absurd h (Nat.lt_irrefl 0)
  | t :: ts, h => by
    unfold owL at h
    rw [Pi.add_apply, Finsupp.add_apply] at h
    rcases Nat.add_pos_iff_pos_or_pos.mp h with h | h
    · obtain ⟨t', h1, h2⟩ := owL_pos h; exact ⟨t', List.mem_cons_of_mem _ h1, h2⟩
    · rw [tallyAt_apply] at h
      split at h
      · next hg => exact ⟨t, List.mem_cons_self, hg.1⟩
      · exact absurd h (Nat.lt_irrefl 0)

theorem obL_pos {c : Dev nD} {g : GSem nD τ sig} {u : Unit} : ∀ {l : List (Fin 5)}, 0 < obL c l g u →
    (∃ t, g = rcvCell t (par t c)) ∨ ∃ d, g = barCell d
  | [], h => by obtain ⟨t, -, h⟩ := owL_pos (l := List.finRange 10) h; exact .inl ⟨t, h⟩
  | s :: ss, h => by
    unfold obL at h
    rw [Pi.add_apply, Finsupp.add_apply] at h
    rcases Nat.add_pos_iff_pos_or_pos.mp h with h | h
    · exact obL_pos h
    · rw [tallyAt_apply] at h
      split at h
      · next hg => exact .inr ⟨_, hg.1⟩
      · exact absurd h (Nat.lt_irrefl 0)

theorem mem_drop : ∀ j : Fin 11, ∀ t ∈ (List.finRange 10).drop j.val, j.val ≤ t.val := by decide

def L (g : GSem nD τ sig) : Finset Unit := if g.1.2 = .tc then {()} else ∅
/-- Barrier cells at 1, transfer `t`'s cells at `2 + t`, the rest at 0. -/
def lv (g : GSem nD τ sig) (_ : Unit) : ℕ :=
  match role g.2 with | .bar => 1 | .snd t => 2 + t.val | .rcv t => 2 + t.val | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (t : Fin 10) (c : Dev nD) (u : Unit) : lv (rcvCell t c) u = 2 + t.val := by dsimp only [lv]; rw [role_rcv]
theorem lv_snd (t : Fin 10) (c : Dev nD) (u : Unit) : lv (sndCell t c) u = 2 + t.val := by dsimp only [lv]; rw [role_snd]
theorem lv_bar (c : Dev nD) (u : Unit) : lv (barCell c) u = 1 := by dsimp only [lv]; rw [role_bar]

theorem mayWait_owR (c : Dev nD) (sm : SemLoc sig) (j : Fin 11) (h : lv ((c : Thread nD τ), sm) () < 2 + j.val) :
    (levAts L lv : sProp 𝕄) ⊢ MayWait (c : Thread nD τ) sm () (owR c j.val) :=
  MayOwe.of_cut (L := L) (lev := lv) (1 + j.val) (fun p hp => by rw [Finset.mem_singleton.mp hp, L_tc]; exact Finset.mem_singleton_self _)
    (fun g u hg => by
      obtain ⟨t, -, rfl⟩ := owL_pos hg
      rw [L_tc]; exact Finset.mem_singleton_self _)
    (fun p hp => by rw [Finset.mem_singleton.mp hp]; show lv ((c : Thread nD τ), sm) () ≤ _; omega)
    (fun g u hg => by
      obtain ⟨t, ht, rfl⟩ := owL_pos hg
      rw [lv_rcv]; have := mem_drop j t ht; omega)

end Cert.KernelIdeal.Xchg
end
-- ==== Proof.Steps.lean ====
/- The operations of one transfer, each as a step between the exchange's states: sent, source back,
   landed, folded. -/
module

public import proofs.«01_k».proof.Proof.Talk
public import Idealize.ShloMosaic.Lib.Pipeline.ValueKit.Geometry

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Rows of the two buffers through the printed slices -/

section Rows

variable {n : ℕ} {o : ℕ}

theorem acc_view_set {inb : ∀ a, (![o, 0] : Fin 2 → ℕ) a + (⟨2, ![n, 1024]⟩ : Shape).size a ≤ S1024x1024.size a} :
    (aM.view.slice (accR o n inb)).set = accSet o n := (View.set_slice_whole _ _).trans accR_set
theorem com_view_set {inb : ∀ a, (![o, 0] : Fin 2 → ℕ) a + (⟨2, ![n, 1024]⟩ : Shape).size a ≤ S2048x1024.size a} :
    (xM.view.slice (comR o n inb)).set = comSet o n := (View.set_slice_whole _ _).trans comR_set

/-- The element of the accumulator a rectangle's index names. -/
theorem acc_emb {inb : ∀ a, (![o, 0] : Fin 2 → ℕ) a + (⟨2, ![n, 1024]⟩ : Shape).size a ≤ S1024x1024.size a}
    (x : (⟨2, ![n, 1024]⟩ : Shape).Idx) (h : o + (x 0).val < 1024) :
    (aM.view.slice (accR o n inb)).emb x = (ix2 (n0 := 1024) (n1 := 1024) ⟨o + (x 0).val, h⟩ (x 1) : S1024x1024.Idx) := by
  funext a
  apply Fin.ext
  refine (ValueKit.view_emb_slice_whole_unit_val aB _ _ inb x a).trans ?_
  match a with
  | 0 => rfl
  | 1 => exact Nat.zero_add _
theorem com_emb {inb : ∀ a, (![o, 0] : Fin 2 → ℕ) a + (⟨2, ![n, 1024]⟩ : Shape).size a ≤ S2048x1024.size a}
    (x : (⟨2, ![n, 1024]⟩ : Shape).Idx) (h : o + (x 0).val < 2048) :
    (xM.view.slice (comR o n inb)).emb x = (ix2 (n0 := 2048) (n1 := 1024) ⟨o + (x 0).val, h⟩ (x 1) : S2048x1024.Idx) := by
  funext a
  apply Fin.ext
  refine (ValueKit.view_emb_slice_whole_unit_val xB _ _ inb x a).trans ?_
  match a with
  | 0 => rfl
  | 1 => exact Nat.zero_add _

end Rows

theorem inb0 {o n m : ℕ} (inb : ∀ a, (![o, 0] : Fin 2 → ℕ) a + (⟨2, ![n, 1024]⟩ : Shape).size a ≤ (⟨2, ![m, 1024]⟩ : Shape).size a) : o + n ≤ m := inb 0

/-- What the partner's copy writes into a slot, row by row. -/
theorem landed_write (t : Fin 10) (c : Dev nD) (f : Dev nD → AccC F)
    (inbA : ∀ a, (![so t c, 0] : Fin 2 → ℕ) a + (⟨2, ![nR t, 1024]⟩ : Shape).size a ≤ S1024x1024.size a)
    (inbX : ∀ a, (![SO t, 0] : Fin 2 → ℕ) a + (⟨2, ![nR t, 1024]⟩ : Shape).size a ≤ S2048x1024.size a) (fd : ComC F) :
    ∀ i ∈ comSet (SO t) (nR t),
      (xM.view.slice (comR (SO t) (nR t) inbX)).write (Elt F) fd ((aM.view.slice (accR (so t c) (nR t) inbA)).read (Elt F) (f c)) Finset.univ i
        = landed t f (par t c) i := by
  intro i hi
  rw [mem_comSet] at hi
  have hA : so t c + nR t ≤ 1024 := inb0 inbA
  have hX : SO t + nR t ≤ 2048 := inb0 inbX
  have hlt : (i 0).val - SO t < nR t := by omega
  let x : (⟨2, ![nR t, 1024]⟩ : Shape).Idx := ix2 (n0 := nR t) (n1 := 1024) ⟨(i 0).val - SO t, hlt⟩ (i 1)
  have hx0 : (x 0).val = (i 0).val - SO t := rfl
  have hi' : i = (xM.view.slice (comR (SO t) (nR t) inbX)).emb x := by
    rw [com_emb x (by rw [hx0]; omega)]
    refine (eq_ix2 (n0 := 2048) (n1 := 1024) i).trans ?_
    congr 1
    apply Fin.ext
    show (i 0).val = SO t + ((i 0).val - SO t)
    omega
  refine (congrArg _ hi').trans ?_
  refine (View.write_emb_of_mem _ _ (Finset.mem_univ x)).trans ?_
  refine (show _ = f c ((aM.view.slice (accR (so t c) (nR t) inbA)).emb x) from rfl).trans ?_
  rw [acc_emb x (by rw [hx0]; omega)]
  unfold landed rowOf
  rw [par_par]
  refine congrArg (f c) ?_
  congr 1
  apply Fin.ext
  show so t c + ((i 0).val - SO t) = (ko t (par t c) + ((i 0).val - SO t)) % 1024
  rw [ko_par, Nat.mod_eq_of_lt (by omega)]

/-- Folding the landing in: the store of the next accumulator's rows makes the next accumulator. -/
theorem fold_write (t : Fin 10) (c : Dev nD) (f : Dev nD → AccC F)
    (inbA : ∀ a, (![ko t c, 0] : Fin 2 → ℕ) a + (⟨2, ![nR t, 1024]⟩ : Shape).size a ≤ S1024x1024.size a)
    (w : FVec F ⟨2, ![nR t, 1024]⟩ .f32)
    (hw : ∀ x, w x = stepAcc t f c ((aM.view.slice (accR (ko t c) (nR t) inbA)).emb x)) :
    (aM.access (accR (ko t c) (nR t) inbA)).write (Elt F) (f c) w Finset.univ = stepAcc t f c := by
  funext i
  by_cases hi : i ∈ accSet (ko t c) (nR t)
  · rw [← acc_view_set (inb := inbA)] at hi
    obtain ⟨x, -, rfl⟩ := Finset.mem_map.mp hi
    refine (View.write_emb_of_mem _ _ (Finset.mem_univ x)).trans ?_
    exact hw x
  · refine (View.write_of_not_mem _ _ _ (by rw [View.setOn_univ]; rw [← acc_view_set (inb := inbA)] at hi; exact hi)).trans ?_
    rw [mem_accSet] at hi
    unfold stepAcc
    rw [if_neg hi]

/-- The rows a reduce step keeps, and the slot, read through the printed slices. -/
theorem read_slot (t : Fin 10) (c : Dev nD) (f : Dev nD → AccC F)
    (inbA : ∀ a, (![ko t c, 0] : Fin 2 → ℕ) a + (⟨2, ![nR t, 1024]⟩ : Shape).size a ≤ S1024x1024.size a)
    (inbX : ∀ a, (![SO t, 0] : Fin 2 → ℕ) a + (⟨2, ![nR t, 1024]⟩ : Shape).size a ≤ S2048x1024.size a)
    (x : (⟨2, ![nR t, 1024]⟩ : Shape).Idx) :
    xM.view.readAt (Elt F) (comR (SO t) (nR t) inbX).toLoadRect (landed t f c) x
      = f (par t c) ((aM.view.slice (accR (ko t c) (nR t) inbA)).emb x) := by
  have hA : ko t c + nR t ≤ 1024 := inb0 inbA
  have hX : SO t + nR t ≤ 2048 := inb0 inbX
  have hx : (x 0).val < nR t := (x 0).isLt
  refine (show _ = landed t f c ((xM.view.slice (comR (SO t) (nR t) inbX)).emb x) from rfl).trans ?_
  rw [com_emb x (by omega), acc_emb x (by omega)]
  unfold landed rowOf
  congr 2
  apply Fin.ext
  show (ko t c + (SO t + (x 0).val - SO t)) % 1024 = _
  rw [Nat.mod_eq_of_lt (by omega)]
  show ko t c + (SO t + (x 0).val - SO t) = ko t c + (x 0).val
  omega

theorem step_at (t : Fin 10) (c : Dev nD) (f : Dev nD → AccC F)
    (inbA : ∀ a, (![ko t c, 0] : Fin 2 → ℕ) a + (⟨2, ![nR t, 1024]⟩ : Shape).size a ≤ S1024x1024.size a)
    (x : (⟨2, ![nR t, 1024]⟩ : Shape).Idx) :
    stepAcc t f c ((aM.view.slice (accR (ko t c) (nR t) inbA)).emb x)
      = if t.val < 5 then FloatOps.addf (f c ((aM.view.slice (accR (ko t c) (nR t) inbA)).emb x))
          (f (par t c) ((aM.view.slice (accR (ko t c) (nR t) inbA)).emb x))
        else f (par t c) ((aM.view.slice (accR (ko t c) (nR t) inbA)).emb x) := by
  have h : (aM.view.slice (accR (ko t c) (nR t) inbA)).emb x ∈ accSet (ko t c) (nR t) := by
    rw [← acc_view_set (inb := inbA)]; exact View.emb_mem_set _ x
  rw [mem_accSet] at h
  unfold stepAcc
  rw [if_pos h]

end Cert.KernelIdeal.Xchg
end
-- ==== Proof.Trans.lean ====
/- The states of the exchange on one device, and each operation of a transfer as a rule between them. -/
module

public import proofs.«01_k».proof.Proof.Steps

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (K : GSem nD τ sig → ℕ) (f : Dev nD → AccC F)

/-- Owing `O`, whatever waits are recorded. -/
def Ow (c : Dev nD) (O : CellTallies nD τ sig Unit) : sProp 𝕄 := iprop(∃ W, owes (c : Thread nD τ) O W)

/-- Transfer `t` not yet begun; sent; its source back; over. -/
def S0 (t : Fin 10) (c : Dev nD) : sProp 𝕄 :=
  iprop((cellInv ER (talkRd f) (K (sndCell t c)) (sndCell t c) ∗ cellInv ER (talkRd f) (K (rcvCell t c)) (rcvCell t c)
      ∗ cellInv ER (talkRd f) (K (rcvCell t (par t c))) (rcvCell t (par t c)))
    ∗ (atPos ER (sndCell t c) 0 ∅ 0 ∗ atPos ER (rcvCell t c) 0 ∅ 0 ∗ reached ER (sndCell t c) 0
      ∗ dutyTok ER (sndCell t c) 0 0 ∗ dutyTok ER (rcvCell t (par t c)) 0 0 ∗ cred (tallyAt (rcvCell t c) () (NT t)))
    ∗ (∃ fd, slotP t (par t c) fd) ∗ reached ER (rcvCell t (par t c)) 0)
def S1 (t : Fin 10) (c : Dev nD) : sProp 𝕄 :=
  iprop((cellInv ER (talkRd f) (K (sndCell t c)) (sndCell t c) ∗ cellInv ER (talkRd f) (K (rcvCell t c)) (rcvCell t c))
    ∗ atPos ER (sndCell t c) 0 ∅ 0 ∗ atPos ER (rcvCell t c) 0 ∅ 0
    ∗ cred (tallyAt (sndCell t c) () (NT t)) ∗ cred (tallyAt (rcvCell t c) () (NT t)))
def S2 (t : Fin 10) (c : Dev nD) : sProp 𝕄 :=
  iprop(cellInv ER (talkRd f) (K (rcvCell t c)) (rcvCell t c)
    ∗ semVal (sndCell t c) 0 ∗ atPos ER (rcvCell t c) 0 ∅ 0 ∗ cred (tallyAt (rcvCell t c) () (NT t)))
def S3 (t : Fin 10) (c : Dev nD) : sProp 𝕄 := iprop(semVal (sndCell t c) 0 ∗ semVal (rcvCell t c) 0)

def todoL (c : Dev nD) : List (Fin 10) → sProp 𝕄
  | [] => iprop(emp)
  | t :: ts => iprop(S0 K f t c ∗ todoL c ts)
def doneL (c : Dev nD) : List (Fin 10) → sProp 𝕄
  | [] => iprop(emp)
  | t :: ts => iprop((S3 t c ∗ ∃ g, slotP t c g) ∗ doneL c ts)

def todo (c : Dev nD) (j : ℕ) : sProp 𝕄 := todoL K f c ((List.finRange 10).drop j)
def done (c : Dev nD) (j : ℕ) : sProp 𝕄 := doneL c ((List.finRange 10).take j).reverse

theorem drop_at : ∀ t : Fin 10, (List.finRange 10).drop t.val = t :: (List.finRange 10).drop (t.val + 1) := by decide
theorem take_at : ∀ t : Fin 10, ((List.finRange 10).take (t.val + 1)).reverse = t :: ((List.finRange 10).take t.val).reverse := by decide

theorem todo_at (c : Dev nD) (t : Fin 10) : todo K f c t.val = iprop(S0 K f t c ∗ todo K f c (t.val + 1)) := by
  unfold todo; rw [drop_at]; rfl
theorem done_at (c : Dev nD) (t : Fin 10) :
    (done c (t.val + 1) : sProp 𝕄) = iprop((S3 t c ∗ ∃ g, slotP t c g) ∗ done c t.val) := by
  unfold done; rw [take_at]; rfl
theorem owR_at (c : Dev nD) (t : Fin 10) : owR c t.val = owR c (t.val + 1) + tallyAt (rcvCell t (par t c)) () (NT t) := by
  unfold owR; rw [drop_at]; rfl

/-- With `j` transfers over. -/
def St (c : Dev nD) (j : ℕ) : sProp 𝕄 :=
  iprop(levAts L lv ∗ accW c (accAt f j c) ∗ Ow c (owR c j) ∗ todo K f c j ∗ done c j)
/-- Transfer `t` sent; its source back; landed. -/
def StS (c : Dev nD) (t : Fin 10) : sProp 𝕄 :=
  iprop(levAts L lv ∗ accRest c (so t c) (nR t) (accAt f t.val c) ∗ Ow c (owR c (t.val + 1)) ∗ S1 K f t c
    ∗ todo K f c (t.val + 1) ∗ done c t.val)
def StW (c : Dev nD) (t : Fin 10) : sProp 𝕄 :=
  iprop(levAts L lv ∗ accW c (accAt f t.val c) ∗ Ow c (owR c (t.val + 1)) ∗ S2 K f t c
    ∗ todo K f c (t.val + 1) ∗ done c t.val)
def StR (c : Dev nD) (t : Fin 10) : sProp 𝕄 :=
  iprop(levAts L lv ∗ accW c (accAt f t.val c) ∗ Ow c (owR c (t.val + 1)) ∗ (S3 t c ∗ slotP t c (landed t (accAt f t.val) c))
    ∗ todo K f c (t.val + 1) ∗ done c t.val)

theorem close (κ : ℕ) (g : GSem nD τ sig) :
    iprop(cellInv ER (talkRd f) κ g ∗ atPos ER g (0 + 1) ∅ 0) ⊢ (|={Set.univ}=> semVal g 0 : sProp 𝕄) :=
  Rounds.cell_close ER (talkRd f) (Set.mem_univ κ) id (duties_later f g)

theorem acc_split (c : Dev nD) (o n : ℕ) (g : AccC F) :
    (accW c g : sProp (MT nD τ sig Unit (Elt F) ℕ UU ℕ)) ⊣⊢ iprop(accP c o n g ∗ accRest c o n g) :=
  pointsTo_split_subset (Finset.subset_univ (accSet o n))

section Ops

variable {α : Type} {k : PUnit.{1} → Prog (TpuEff nD τ sig (Elt F) Λ₀ .tc) α}
variable {Q : α → sProp (MT nD τ sig Unit (Elt F) ℕ UU ℕ)}
variable {R : sProp (MT nD τ sig Unit (Elt F) ℕ UU ℕ)}

/-- The copy of transfer `t`. -/
theorem op_send (t : Fin 10) (c : Dev nD) {n : ℕ} (hn : n = nR t) {oA oX : Fin 2 → ℕ} (hoA : oA = ![so t c, 0]) (hoX : oX = ![SO t, 0])
    {inbA : ∀ a, oA a + (⟨2, ![n, 1024]⟩ : Shape).size a ≤ S1024x1024.size a}
    {inbX : ∀ a, oX a + (⟨2, ![n, 1024]⟩ : Shape).size a ≤ S2048x1024.size a}
    {c' : Dev nD} (hc : c' = par t c) {sS sR : DmaSem sig} (hS : sS = sndS t) (hR : sR = rcvS t)
    {h1 h2 h3}
    (h : iprop(StS K f c t ∗ R) ⊢ wp frame (wpE (defs₀ (F := F)) 𝒱₀ (c : Thread nD τ) none) Set.univ (k ⟨⟩) Q) :
    iprop(St K f c t.val ∗ R) ⊢ wp frame (wpE (defs₀ (F := F)) 𝒱₀ (c : Thread nD τ) none) Set.univ
      (.op (.enqueueDma (aM.slice (Rect.unit (s := S1024x1024) oA (⟨2, ![n, 1024]⟩ : Shape).size inbA) (fun _ => rfl))
        (.remote (Dev.tc c') (xM.slice (Rect.unit (s := S2048x1024) oX (⟨2, ![n, 1024]⟩ : Shape).size inbX) (fun _ => rfl)) (.dma sS)) (.dma sR) h1 h2 h3) k) Q := by
  subst hn hoA hoX hc hS hR
  unfold St
  rw [todo_at]
  unfold S0 Ow
  iintro ⟨⟨#Hlev, HA, ⟨%W, HO⟩, ⟨⟨⟨#HIs, #HIr, #HIp⟩, ⟨HaS, HaR, #HrS, HtS, HtN, HcR⟩, ⟨%fd, Hsl⟩, #HrN⟩, Htd⟩, Hdn⟩, HR⟩
  ihave HA2 := (acc_split c (so t c) (nR t) (accAt f t.val c)).1 $$ HA
  icases HA2 with ⟨Hsrc, Hrest⟩
  iapply (Rounds.wp_send_pointsTo 𝒱₀ ER (talkRd f) (c : Thread nD τ) none (c' := (par t c : Thread nD τ))
      (sS := .dma (sndS t)) (sem := .dma (rcvS t)) (q := fullShare) (fs := accAt f t.val c) (κ₁ := K (sndCell t c)) (κ₂ := K (rcvCell t (par t c)))
      (r₁ := 0) (r₂ := 0) (d₁ := 0) (d₂ := 0) (fd := fd)
      (by rw [duties_snd]; exact Finset.mem_singleton_self _) (by rw [duties_rcv]; exact Finset.mem_singleton_self _)
      () () (NT t) rfl (amount_snd f c t 0) (amount_rcv f (par t c) t 0) (owR c (t.val + 1)) (owR_at c t) (W := W)
      (by rw [payload_snd]; unfold sndPay accP; rw [← acc_view_set (inb := inbA)])
      (by
        rw [payload_rcv]; unfold rcvPay slotP
        rw [show (slotM t).view.set = comSet (SO t) (nR t) from com_view_set]
        exact Entails.of_eq (pointsTo_congr (landed_write t c (accAt f t.val) inbA inbX fd)))) $$ [Hsrc Hsl HO HtS HtN]
  · isplitr; · iexact HIs
    isplitr; · iexact HIp
    isplitl [Hsrc]; · unfold accP; rw [← acc_view_set (inb := inbA)]; iexact Hsrc
    isplitl [Hsl]; · unfold slotP; rw [← com_view_set (inb := inbX)]; iexact Hsl
    isplitl [HO]; · iexact HO
    isplitl [HtS]; · iexact HtS
    isplitr; · iexact HrS
    isplitl [HtN]; · iexact HtN
    iexact HrN
  iintro ⟨HcS, HO⟩
  iapply h
  unfold StS S1 Ow
  isplitr [HR]
  · isplitr; · iexact Hlev
    isplitl [Hrest]; · iexact Hrest
    isplitl [HO]; · iexists W; iexact HO
    isplitl [HaS HaR HcS HcR]
    · isplitr
      · isplitr; · iexact HIs
        iexact HIr
      isplitl [HaS]; · iexact HaS
      isplitl [HaR]; · iexact HaR
      isplitl [HcS] <;> iassumption
    isplitl [Htd] <;> iassumption
  iexact HR

/-- The wait for transfer `t`'s source. -/
theorem op_ws (t : Fin 10) (c : Dev nD) {s' s'' : Shape} {m' : Memref sig .tc .vmem s' .f32} {m'' : Memref sig .tc .vmem s'' .f32} (hN : m''.view.dmaCredit = NT t) {sS : DmaSem sig} (hS : sS = sndS t) {h1 h2}
    (h : iprop(StW K f c t ∗ R) ⊢ wp frame (wpE (defs₀ (F := F)) 𝒱₀ (c : Thread nD τ) none) Set.univ (k ⟨⟩) Q) :
    iprop(StS K f c t ∗ R) ⊢ wp frame (wpE (defs₀ (F := F)) 𝒱₀ (c : Thread nD τ) none) Set.univ
      (.op (.waitDma2 sS m' m'' h1 h2) k) Q := by
  subst hS
  unfold StS S1 Ow
  iintro ⟨⟨#Hlev, Hrest, ⟨%W, HO⟩, ⟨⟨#HIs, #HIr⟩, HaS, HaR, HcS, HcR⟩, Htd, Hdn⟩, HR⟩
  iapply (Rounds.wp_wait_rest_token 𝒱₀ ER (talkRd f) (c : Thread nD τ) none (κ := K (sndCell t c))
      (wpE_waitDma2_eq (src := m') (dst := m'') (hsrc := h1) (hdst := h2) 𝒱₀ (c : Thread nD τ) none Set.univ) (Set.mem_univ _) () (O := owR c (t.val + 1)) (W := W)
      (R := 0) (m := 0) (T := ∅) (by rw [Nat.zero_add, hN]; exact (expect_snd f c t).symm)) $$ [HO HaS HcS]
  · isplitr; · iexact HIs
    isplitl [HcS]; · rw [hN]; iexact HcS
    isplitl [HO]; · iexact HO
    isplitr
    · ihave H := (mayWait_owR (F := F) c (.dma (sndS t)) ⟨t.val + 1, by omega⟩ (by rw [lv_snd]; show _ < 2 + (t.val + 1); omega)) $$ Hlev
      iexact H
    iexact HaS
  iintro ⟨HO, HaS, _, Hp⟩
  ihave Hp := (Entails.of_eq ((rest_snd f c t).trans (show sndPay f t c = accP c (so t c) (nR t) (accAt f t.val c) from rfl))) $$ Hp
  ihave HA := (acc_split c (so t c) (nR t) (accAt f t.val c)).2 $$ [Hp Hrest]
  · isplitl [Hp] <;> iassumption
  iapply (fupd_wp frame (wpE (defs₀ (F := F)) 𝒱₀ (c : Thread nD τ) none) Set.univ _ _)
  imod (close f (K (sndCell t c)) (sndCell t c)) $$ [HaS] with Hz
  · isplitr; · iexact HIs
    iexact HaS
  imodintro
  iapply h
  unfold StW S2 Ow
  isplitr [HR]
  · isplitr; · iexact Hlev
    isplitl [HA]; · iexact HA
    isplitl [HO]; · iexists _; iexact HO
    isplitl [Hz HaR HcR]
    · isplitr; · iexact HIr
      isplitl [Hz]; · iexact Hz
      isplitl [HaR] <;> iassumption
    isplitl [Htd] <;> iassumption
  iexact HR

/-- The wait for transfer `t`'s landing. -/
theorem op_wr (t : Fin 10) (c : Dev nD) {s' s'' : Shape} {m' : Memref sig .tc .vmem s' .f32} {m'' : Memref sig .tc .vmem s'' .f32} (hN : m''.view.dmaCredit = NT t) {sR : DmaSem sig} (hR : sR = rcvS t) {h1 h2}
    (h : iprop(StR K f c t ∗ R) ⊢ wp frame (wpE (defs₀ (F := F)) 𝒱₀ (c : Thread nD τ) none) Set.univ (k ⟨⟩) Q) :
    iprop(StW K f c t ∗ R) ⊢ wp frame (wpE (defs₀ (F := F)) 𝒱₀ (c : Thread nD τ) none) Set.univ
      (.op (.waitDma2 sR m' m'' h1 h2) k) Q := by
  subst hR
  unfold StW S2 Ow
  iintro ⟨⟨#Hlev, HA, ⟨%W, HO⟩, ⟨#HIr, Hz, HaR, HcR⟩, Htd, Hdn⟩, HR⟩
  iapply (Rounds.wp_wait_rest_token 𝒱₀ ER (talkRd f) (c : Thread nD τ) none (κ := K (rcvCell t c))
      (wpE_waitDma2_eq (src := m') (dst := m'') (hsrc := h1) (hdst := h2) 𝒱₀ (c : Thread nD τ) none Set.univ) (Set.mem_univ _) () (O := owR c (t.val + 1)) (W := W)
      (R := 0) (m := 0) (T := ∅) (by rw [Nat.zero_add, hN]; exact (expect_rcv f c t).symm)) $$ [HO HaR HcR]
  · isplitr; · iexact HIr
    isplitl [HcR]; · rw [hN]; iexact HcR
    isplitl [HO]; · iexact HO
    isplitr
    · ihave H := (mayWait_owR (F := F) c (.dma (rcvS t)) ⟨t.val + 1, by omega⟩ (by rw [lv_rcv]; show _ < 2 + (t.val + 1); omega)) $$ Hlev
      iexact H
    iexact HaR
  iintro ⟨HO, HaR, _, Hp⟩
  ihave Hp := (Entails.of_eq ((rest_rcv f c t).trans (show rcvPay f t c = slotP t c (landed t (accAt f t.val) c) from rfl))) $$ Hp
  iapply (fupd_wp frame (wpE (defs₀ (F := F)) 𝒱₀ (c : Thread nD τ) none) Set.univ _ _)
  imod (close f (K (rcvCell t c)) (rcvCell t c)) $$ [HaR] with Hy
  · isplitr; · iexact HIr
    iexact HaR
  imodintro
  iapply h
  unfold StR S3 Ow
  isplitr [HR]
  · isplitr; · iexact Hlev
    isplitl [HA]; · iexact HA
    isplitl [HO]; · iexists _; iexact HO
    isplitl [Hz Hy Hp]
    · isplitr [Hp]
      · isplitl [Hz] <;> iassumption
      iexact Hp
    isplitl [Htd] <;> iassumption
  iexact HR

theorem com_access_sub (t : Fin 10) {inbX : ∀ a, (![SO t, 0] : Fin 2 → ℕ) a + (⟨2, ![nR t, 1024]⟩ : Shape).size a ≤ S2048x1024.size a} :
    xM.view.setOn (comR (SO t) (nR t) inbX).toLoadRect.set ⊆ comSet (SO t) (nR t) := by
  intro i hi
  obtain ⟨x, hx, rfl⟩ := Finset.mem_map.mp hi
  rw [← comR_set (inb := inbX)]
  exact hx

/-- Folding a landing of the scatter half in. -/
theorem op_foldRS (t : Fin 10) (c : Dev nD) (ht : t.val < 5) {n : ℕ} (hn : n = nR t) {oA oX : Fin 2 → ℕ}
    (hoA : oA = ![ko t c, 0]) (hoX : oX = ![SO t, 0])
    {inbA : ∀ a, oA a + (⟨2, ![n, 1024]⟩ : Shape).size a ≤ S1024x1024.size a}
    {inbX : ∀ a, oX a + (⟨2, ![n, 1024]⟩ : Shape).size a ≤ S2048x1024.size a}
    {pay : Vec F (⟨2, ![n, 1024]⟩ : Shape) .f32 → Vec F (⟨2, ![n, 1024]⟩ : Shape) .f32 → Vec F (⟨2, ![n, 1024]⟩ : Shape) .f32}
    (hp : ∀ u v x, pay u v x = FloatOps.addf (u x) (v x)) {h1 h2 h3 h4 h5}
    (h : iprop(St K f c (t.val + 1) ∗ R) ⊢ wp frame (wpE (defs₀ (F := F)) 𝒱₀ (c : Thread nD τ) none) Set.univ (k ⟨⟩) Q) :
    iprop(StR K f c t ∗ R) ⊢ wp frame (wpE (defs₀ (F := F)) 𝒱₀ (c : Thread nD τ) none) Set.univ
      (.op (.load aM (Rect.unit (s := S1024x1024) oA (⟨2, ![n, 1024]⟩ : Shape).size inbA).toLoadRect h1) fun u =>
        .op (.load xM (Rect.unit (s := S2048x1024) oX (⟨2, ![n, 1024]⟩ : Shape).size inbX).toLoadRect h2) fun v =>
        .op (.load aM (Rect.unit (s := S1024x1024) oA (⟨2, ![n, 1024]⟩ : Shape).size inbA).toLoadRect h3) fun _ =>
        .op (.store aM (Rect.unit (s := S1024x1024) oA (⟨2, ![n, 1024]⟩ : Shape).size inbA) (pay u v) Finset.univ h4 h5) k) Q := by
  subst hn hoA hoX
  unfold StR accW slotP
  iintro ⟨⟨#Hlev, HA, HO, ⟨H3, Hsl⟩, Htd, Hdn⟩, HR⟩
  iapply (wp_load (m := aM) 𝒱₀ (c : Thread nD τ) none Set.univ (S := Finset.univ) (Finset.subset_univ _)) $$ HA
  iintro HA
  iapply (wp_load (m := xM) 𝒱₀ (c : Thread nD τ) none Set.univ (S := comSet (SO t) (nR t)) (com_access_sub t)) $$ Hsl
  iintro Hsl
  iapply (wp_load (m := aM) 𝒱₀ (c : Thread nD τ) none Set.univ (S := Finset.univ) (Finset.subset_univ _)) $$ HA
  iintro HA
  iapply (wp_store (m := aM) (r := accR (ko t c) (nR t) inbA) 𝒱₀ (c : Thread nD τ) none Set.univ (S := Finset.univ) (Finset.subset_univ _)) $$ HA
  iintro HA
  rw [show (aM.access (accR (ko t c) (nR t) inbA)).write (Elt F) (accAt f t.val c) (pay _ _) Finset.univ = accAt f (t.val + 1) c from by
    rw [accAt_succ]
    refine fold_write t c (accAt f t.val) inbA _ fun x => ?_
    rw [hp, step_at, if_pos ht, read_slot t c (accAt f t.val) inbA inbX x]
    rfl]
  iapply h
  unfold St accW
  rw [done_at]
  isplitr [HR]
  · isplitr; · iexact Hlev
    isplitl [HA]; · iexact HA
    isplitl [HO]; · iexact HO
    isplitl [Htd]; · iexact Htd
    isplitl [H3 Hsl]
    · isplitl [H3]; · iexact H3
      iexists _; iexact Hsl
    iexact Hdn
  iexact HR

/-- Copying a landing of the gather half in. -/
theorem op_foldAG (t : Fin 10) (c : Dev nD) (ht : ¬ t.val < 5) {n : ℕ} (hn : n = nR t) {oA oX : Fin 2 → ℕ}
    (hoA : oA = ![ko t c, 0]) (hoX : oX = ![SO t, 0])
    {inbA : ∀ a, oA a + (⟨2, ![n, 1024]⟩ : Shape).size a ≤ S1024x1024.size a}
    {inbX : ∀ a, oX a + (⟨2, ![n, 1024]⟩ : Shape).size a ≤ S2048x1024.size a}
    {pay : Vec F (⟨2, ![n, 1024]⟩ : Shape) .f32 → Vec F (⟨2, ![n, 1024]⟩ : Shape) .f32}
    (hp : ∀ v, pay v = v) {h2 h3 h4 h5}
    (h : iprop(St K f c (t.val + 1) ∗ R) ⊢ wp frame (wpE (defs₀ (F := F)) 𝒱₀ (c : Thread nD τ) none) Set.univ (k ⟨⟩) Q) :
    iprop(StR K f c t ∗ R) ⊢ wp frame (wpE (defs₀ (F := F)) 𝒱₀ (c : Thread nD τ) none) Set.univ
      (.op (.load xM (Rect.unit (s := S2048x1024) oX (⟨2, ![n, 1024]⟩ : Shape).size inbX).toLoadRect h2) fun v =>
        .op (.load aM (Rect.unit (s := S1024x1024) oA (⟨2, ![n, 1024]⟩ : Shape).size inbA).toLoadRect h3) fun _ =>
        .op (.store aM (Rect.unit (s := S1024x1024) oA (⟨2, ![n, 1024]⟩ : Shape).size inbA) (pay v) Finset.univ h4 h5) k) Q := by
  subst hn hoA hoX
  unfold StR accW slotP
  iintro ⟨⟨#Hlev, HA, HO, ⟨H3, Hsl⟩, Htd, Hdn⟩, HR⟩
  iapply (wp_load (m := xM) 𝒱₀ (c : Thread nD τ) none Set.univ (S := comSet (SO t) (nR t)) (com_access_sub t)) $$ Hsl
  iintro Hsl
  iapply (wp_load (m := aM) 𝒱₀ (c : Thread nD τ) none Set.univ (S := Finset.univ) (Finset.subset_univ _)) $$ HA
  iintro HA
  iapply (wp_store (m := aM) (r := accR (ko t c) (nR t) inbA) 𝒱₀ (c : Thread nD τ) none Set.univ (S := Finset.univ) (Finset.subset_univ _)) $$ HA
  iintro HA
  rw [show (aM.access (accR (ko t c) (nR t) inbA)).write (Elt F) (accAt f t.val c) (pay _) Finset.univ = accAt f (t.val + 1) c from by
    rw [accAt_succ]
    refine fold_write t c (accAt f t.val) inbA _ fun x => ?_
    rw [hp, step_at, if_neg ht, read_slot t c (accAt f t.val) inbA inbX x]]
  iapply h
  unfold St accW
  rw [done_at]
  isplitr [HR]
  · isplitr; · iexact Hlev
    isplitl [HA]; · iexact HA
    isplitl [HO]; · iexact HO
    isplitl [Htd]; · iexact Htd
    isplitl [H3 Hsl]
    · isplitl [H3]; · iexact H3
      iexists _; iexact Hsl
    iexact Hdn
  iexact HR

/-- The credit of a block of the accumulator is that of a block of the landing buffer of the same shape. -/
theorem credit_acc (o : Fin 2 → ℕ) (n : ℕ) (inb : ∀ a, o a + (⟨2, ![n, 1024]⟩ : Shape).size a ≤ S1024x1024.size a)
    (o' : Fin 2 → ℕ) (inb' : ∀ a, o' a + (⟨2, ![n, 1024]⟩ : Shape).size a ≤ S2048x1024.size a) :
    (aM.slice (Rect.unit (s := S1024x1024) o (⟨2, ![n, 1024]⟩ : Shape).size inb) (fun _ => rfl)).view.dmaCredit
      = (xM.slice (Rect.unit (s := S2048x1024) o' (⟨2, ![n, 1024]⟩ : Shape).size inb') (fun _ => rfl)).view.dmaCredit := by
  unfold View.dmaCredit
  dsimp only [sig]
  rfl

theorem op_wsA (t : Fin 10) (c : Dev nD) {n : ℕ} (hn : n = nR t) {oA : Fin 2 → ℕ}
    {inbA : ∀ a, oA a + (⟨2, ![n, 1024]⟩ : Shape).size a ≤ S1024x1024.size a}
    {s' : Shape} {m' : Memref sig .tc .vmem s' .f32} {sS : DmaSem sig} (hS : sS = sndS t) {h1 h2}
    (h : iprop(StW K f c t ∗ R) ⊢ wp frame (wpE (defs₀ (F := F)) 𝒱₀ (c : Thread nD τ) none) Set.univ (k ⟨⟩) Q) :
    iprop(StS K f c t ∗ R) ⊢ wp frame (wpE (defs₀ (F := F)) 𝒱₀ (c : Thread nD τ) none) Set.univ
      (.op (.waitDma2 sS m' (aM.slice (Rect.unit (s := S1024x1024) oA (⟨2, ![n, 1024]⟩ : Shape).size inbA) (fun _ => rfl)) h1 h2) k) Q := by
  subst hn
  exact op_ws K f t c (credit_acc _ _ _ _ (slot_inb t)) hS h

end Ops

end Cert.KernelIdeal.Xchg
end
-- ==== Proof.Shake.lean ====
/- The handshake on one device: a signal to each of the five partners, handing over the two slots that partner
   copies into, and the wait for all five. -/
module

public import proofs.«01_k».proof.Proof.Trans

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : GSem nD τ sig → ℕ) (f : Dev nD → AccC F)

abbrev lo (s : Fin 5) : Fin 10 := ⟨s.val, by omega⟩
abbrev hi (s : Fin 5) : Fin 10 := ⟨9 - s.val, by omega⟩

theorem par_hi (s : Fin 5) (c : Dev nD) : par (hi s) c = par (lo s) c := by revert s c; decide +kernel

/-- `c`'s own slot `t`, to be lent; and the partner's, borrowed. -/
def Give (t : Fin 10) (c : Dev nD) : sProp (MT nD τ sig Unit (Elt F) ℕ UU ℕ) :=
  iprop((∃ g, slotP t c g) ∗ reached ER (rcvCell t c) 0)
def Got (t : Fin 10) (c : Dev nD) : sProp (MT nD τ sig Unit (Elt F) ℕ UU ℕ) :=
  iprop((∃ g, slotP t (par t c) g) ∗ reached ER (rcvCell t (par t c)) 0)

theorem give_pay (s : Fin 5) (c : Dev nD) :
    iprop(Give (F := F) (lo s) c ∗ Give (hi s) c) ⊢ barPay (par (lo s) c) s := by
  unfold barPay Give
  dsimp only
  rw [show par (⟨s.val, by omega⟩ : Fin 10) (par (lo s) c) = c from par_par _ _,
    show par (⟨9 - s.val, by omega⟩ : Fin 10) (par (lo s) c) = c from by rw [← par_hi]; exact par_par _ _]

theorem pay_got (s : Fin 5) (c : Dev nD) : (barPay c s : sProp (MT nD τ sig Unit (Elt F) ℕ UU ℕ)) = iprop(Got (lo s) c ∗ Got (hi s) c) := rfl

/-- Transfer `t`'s own part, before its slot is borrowed. -/
def G0 (t : Fin 10) (c : Dev nD) : sProp (MT nD τ sig Unit (Elt F) ℕ UU ℕ) :=
  iprop((cellInv ER (talkRd f) (K (sndCell t c)) (sndCell t c) ∗ cellInv ER (talkRd f) (K (rcvCell t c)) (rcvCell t c)
      ∗ cellInv ER (talkRd f) (K (rcvCell t (par t c))) (rcvCell t (par t c)))
    ∗ (atPos ER (sndCell t c) 0 ∅ 0 ∗ atPos ER (rcvCell t c) 0 ∅ 0 ∗ reached ER (sndCell t c) 0
      ∗ dutyTok ER (sndCell t c) 0 0 ∗ dutyTok ER (rcvCell t (par t c)) 0 0 ∗ cred (tallyAt (rcvCell t c) () (NT t))))

theorem s0_intro (t : Fin 10) (c : Dev nD) : iprop(G0 K f t c ∗ Got t c) ⊢ S0 K f t c := by
  unfold G0 Got S0
  iintro ⟨⟨HA, HB⟩, HC⟩
  isplitl [HA]; · iexact HA
  isplitl [HB]; · iexact HB
  iexact HC

/-- The signals still to send. -/
def Hs (c : Dev nD) : List (Fin 5) → sProp (MT nD τ sig Unit (Elt F) ℕ UU ℕ)
  | [] => iprop(emp)
  | s :: ss => iprop(((cellInv ER (talkRd f) (K (barCell (par (lo s) c))) (barCell (par (lo s) c))
      ∗ dutyTok ER (barCell (par (lo s) c)) 0 s ∗ reached ER (barCell (par (lo s) c)) 0)
      ∗ Give (lo s) c ∗ Give (hi s) c) ∗ Hs c ss)

def BarSt (c : Dev nD) (l : List (Fin 5)) : sProp (MT nD τ sig Unit (Elt F) ℕ UU ℕ) :=
  iprop(levAts L lv ∗ (cellInv ER (talkRd f) (K (barCell c)) (barCell c) ∗ atPos ER (barCell c) 0 ∅ 0 ∗ cred (tallyAt (barCell c) () 5))
    ∗ Ow c (obL c l) ∗ Hs K f c l)
def BarW (c : Dev nD) : sProp (MT nD τ sig Unit (Elt F) ℕ UU ℕ) :=
  iprop(levAts L lv ∗ semVal (barCell c) 0 ∗ Ow c (owR c 0)
    ∗ barPay c 0 ∗ barPay c 1 ∗ barPay c 2 ∗ barPay c 3 ∗ barPay c 4)

section Ops

variable {α : Type} {k : PUnit.{1} → Prog (TpuEff nD τ sig (Elt F) Λ₀ .tc) α}
variable {Q : α → sProp (MT nD τ sig Unit (Elt F) ℕ UU ℕ)}
variable {R : sProp (MT nD τ sig Unit (Elt F) ℕ UU ℕ)}

theorem op_sig (s : Fin 5) (ss : List (Fin 5)) (c : Dev nD) {c' : Dev nD} (hc : c' = par (lo s) c) {n : Int} (hn : n = ((1 : ℕ) : Int))
    (h : iprop(BarSt K f c ss ∗ R) ⊢ wp frame (wpE (defs₀ (F := F)) 𝒱₀ (c : Thread nD τ) none) Set.univ (k ⟨⟩) Q) :
    iprop(BarSt K f c (s :: ss) ∗ R) ⊢ wp frame (wpE (defs₀ (F := F)) 𝒱₀ (c : Thread nD τ) none) Set.univ
      (.op (.semSignal (c' : Thread nD τ) barrier0 n) k) Q := by
  subst hc hn
  unfold BarSt Hs Ow
  iintro ⟨⟨#Hlev, HB, ⟨%W, HO⟩, ⟨⟨⟨#HI, Ht, #Hr⟩, Hg⟩, Hs⟩⟩, HR⟩
  iapply (Rounds.wp_signal 𝒱₀ ER (talkRd f) (c : Thread nD τ) none (dst := (par (lo s) c : Thread nD τ)) (sem := barrier0) (r := 0) (d := s)
      (κ := K (barCell (par (lo s) c))) (by rw [duties_bar]; exact Finset.mem_univ _) (amount_bar f (par (lo s) c) s) () (obL c ss) rfl (W := W)) $$ [HO Ht Hg]
  · isplitr; · iexact HI
    isplitl [HO]; · iexact HO
    isplitl [Ht]; · iexact Ht
    isplitl [Hg]
    · rw [payload_bar]; iapply (give_pay s c) $$ Hg
    iexact Hr
  iintro HO
  iapply h
  unfold BarSt Ow
  isplitr [HR]
  · isplitr; · iexact Hlev
    isplitl [HB]; · iexact HB
    isplitl [HO]; · iexists W; iexact HO
    iexact Hs
  iexact HR

theorem five (Φ : Fin 5 → sProp (MT nD τ sig Unit (Elt F) ℕ UU ℕ)) :
    bigSep Finset.univ Φ = iprop(Φ 0 ∗ Φ 1 ∗ Φ 2 ∗ Φ 3 ∗ Φ 4) :=
  bigSep_univ_eq_bigSepL [0, 1, 2, 3, 4] (by decide) (by decide) Φ

theorem op_barwait (c : Dev nD) {n : Int} (hn : n = ((5 : ℕ) : Int))
    (h : iprop(BarW c ∗ R) ⊢ wp frame (wpE (defs₀ (F := F)) 𝒱₀ (c : Thread nD τ) none) Set.univ (k ⟨⟩) Q) :
    iprop(BarSt K f c [] ∗ R) ⊢ wp frame (wpE (defs₀ (F := F)) 𝒱₀ (c : Thread nD τ) none) Set.univ
      (.op (.semWait barrier0 n) k) Q := by
  subst hn
  unfold BarSt Hs Ow
  iintro ⟨⟨#Hlev, ⟨#HI, Ha, Hc⟩, ⟨%W, HO⟩, _⟩, HR⟩
  iapply (Rounds.wp_wait_rest_token 𝒱₀ ER (talkRd f) (c : Thread nD τ) none (κ := K (barCell c))
      (wpE_semWait_eq 𝒱₀ (c : Thread nD τ) none Set.univ) (Set.mem_univ _) () (O := owR c 0) (W := W) (R := 0) (m := 0) (T := ∅)
      ((Nat.zero_add 5).trans (expect_bar f c).symm)) $$ [Hc HO Ha]
  · isplitr; · iexact HI
    isplitl [Hc]; · iexact Hc
    isplitl [HO]; · iexact HO
    isplitr
    · ihave H := (mayWait_owR (F := F) c (.reg barrier0) 0 (by rw [lv_bar]; decide)) $$ Hlev
      iexact H
    iexact Ha
  iintro ⟨HO, Ha, _, Hp⟩
  ihave Hp := (Entails.of_eq ((rest_bar f c).trans (five _))) $$ Hp
  iapply (fupd_wp frame (wpE (defs₀ (F := F)) 𝒱₀ (c : Thread nD τ) none) Set.univ _ _)
  imod (close f (K (barCell c)) (barCell c)) $$ [Ha] with Hz
  · isplitr; · iexact HI
    iexact Ha
  imodintro
  iapply h
  unfold BarW Ow
  isplitr [HR]
  · isplitr; · iexact Hlev
    isplitl [Hz]; · iexact Hz
    isplitl [HO]; · iexists _; iexact HO
    iexact Hp
  iexact HR

end Ops

/-- The ten transfers' own parts. -/
def Gs (c : Dev nD) : sProp (MT nD τ sig Unit (Elt F) ℕ UU ℕ) :=
  iprop(G0 K f 0 c ∗ G0 K f 1 c ∗ G0 K f 2 c ∗ G0 K f 3 c ∗ G0 K f 4 c ∗ G0 K f 5 c ∗ G0 K f 6 c ∗ G0 K f 7 c ∗ G0 K f 8 c ∗ G0 K f 9 c)

theorem todo_zero (c : Dev nD) : todo K f c 0 = iprop(S0 K f 0 c ∗ S0 K f 1 c ∗ S0 K f 2 c ∗ S0 K f 3 c ∗ S0 K f 4 c ∗ S0 K f 5 c
    ∗ S0 K f 6 c ∗ S0 K f 7 c ∗ S0 K f 8 c ∗ S0 K f 9 c ∗ emp) := by
  unfold todo
  rw [show (List.finRange 10).drop 0 = [0, 1, 2, 3, 4, 5, 6, 7, 8, 9] from by decide]
  rfl

/-- All five heard from: every transfer is ready. -/
theorem ready (c : Dev nD) : iprop((barPay c 0 ∗ barPay c 1 ∗ barPay c 2 ∗ barPay c 3 ∗ barPay c 4) ∗ Gs K f c) ⊢ todo K f c 0 := by
  rw [todo_zero]
  unfold Gs
  simp only [pay_got]
  iintro ⟨⟨⟨H0, H9⟩, ⟨H1, H8⟩, ⟨H2, H7⟩, ⟨H3, H6⟩, ⟨H4, H5⟩⟩, G0, G1, G2, G3, G4, G5, G6, G7, G8, G9⟩
  isplitl [H0 G0]; · iapply (s0_intro K f 0 c); isplitl [G0]; · iexact G0
                     iexact H0
  isplitl [H1 G1]; · iapply (s0_intro K f 1 c); isplitl [G1]; · iexact G1
                     iexact H1
  isplitl [H2 G2]; · iapply (s0_intro K f 2 c); isplitl [G2]; · iexact G2
                     iexact H2
  isplitl [H3 G3]; · iapply (s0_intro K f 3 c); isplitl [G3]; · iexact G3
                     iexact H3
  isplitl [H4 G4]; · iapply (s0_intro K f 4 c); isplitl [G4]; · iexact G4
                     iexact H4
  isplitl [H5 G5]; · iapply (s0_intro K f 5 c); isplitl [G5]; · iexact G5
                     iexact H5
  isplitl [H6 G6]; · iapply (s0_intro K f 6 c); isplitl [G6]; · iexact G6
                     iexact H6
  isplitl [H7 G7]; · iapply (s0_intro K f 7 c); isplitl [G7]; · iexact G7
                     iexact H7
  isplitl [H8 G8]; · iapply (s0_intro K f 8 c); isplitl [G8]; · iexact G8
                     iexact H8
  isplitl [H9 G9]; · iapply (s0_intro K f 9 c); isplitl [G9]; · iexact G9
                     iexact H9
  iempintro

end Cert.KernelIdeal.Xchg
end
-- ==== Proof.Heads.lean ====
/- The attention half of the body on one device: what each head stores, and the two rules its loads and stores follow. -/
module

public import proofs.«01_k».proof.Proof.Shake
public import proofs.«01_k».proof.Proof.Gen.KernelIdeal.Skeleton

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev b0M : Memref sig .tc .vmem S1x1024x1024 .f32 := Memref.whole cc0_stg0_0
abbrev b1M : Memref sig .tc .vmem S1024x1024 .f32 := Memref.whole cc0_stg1_0
abbrev b2M : Memref sig .tc .vmem S1x1024x8x128 .f32 := Memref.whole cc0_stg2_0
abbrev b3M : Memref sig .tc .vmem S1x1024x8x128 .f32 := Memref.whole cc0_stg3_0
abbrev b4M : Memref sig .tc .vmem S1024x1024 .f32 := Memref.whole cc0_stg4_0
abbrev b5M : Memref sig .tc .vmem S1x1024x1024 .f32 := Memref.whole cc0_stg5_0
abbrev cM : Memref sig .tc .vmem S1024x1024 .f32 := Memref.whole cc0_scratch0

/-- Device `c`'s whole buffer `b` at contents `X`. -/
abbrev stg (c : Dev nD) (b : Ref sig .tc) (X : b.ty.Contents (Elt F)) : sProp (MT nD τ sig Unit (Elt F) ℕ UU ℕ) :=
  ((c : Thread nD τ).loc b) ↦{fullShare} (X : Buf (Elt F) ((c : Thread nD τ).loc b))

/-! ### The values -/

/-- Columns `128 h …` of the query, and head `h` of a key or value block. -/
def qcol (q : FVec F S1024x1024 .f32) (h : Fin 8) : FVec F S1024x128 .f32 :=
  fun i => q (ix2 (n0 := 1024) (n1 := 1024) (i 0) ⟨128 * h.val + (i 1).val, by have := (i 1).isLt; have : (i 1).val < 128 := this; omega⟩)
def piece (k : FVec F S1x1024x8x128 .f32) (h : Fin 8) : FVec F S1x1024x1x128 .f32 :=
  fun i => k (ix4 (n0 := 1) (n1 := 1024) (n2 := 8) (n3 := 128) (i 0) (i 1) h (i 3))

/-- One head's result. -/
def headOf (qs : FVec F S1024x128 .f32) (kk vv : FVec F S1x1024x1x128 .f32) : FVec F S1024x128 .f32 := k0_pay7 k0_pay4 qs kk vv

/-- All eight heads' results, side by side. -/
def ctx (q : FVec F S1024x1024 .f32) (k v : FVec F S1x1024x8x128 .f32) : FVec F S1024x1024 .f32 := fun i =>
  headOf (qcol q ⟨(i 1).val / 128, by have := (i 1).isLt; have : (i 1).val < 1024 := this; omega⟩)
    (piece k ⟨(i 1).val / 128, by have := (i 1).isLt; have : (i 1).val < 1024 := this; omega⟩)
    (piece v ⟨(i 1).val / 128, by have := (i 1).isLt; have : (i 1).val < 1024 := this; omega⟩)
    (ix2 (n0 := 1024) (n1 := 128) (i 0) ⟨(i 1).val % 128, Nat.mod_lt _ (by norm_num)⟩)

/-- The query and the device's summand, of what it holds. -/
def query (x : FVec F S1x1024x1024 .f32) (wq : FVec F S1024x1024 .f32) : FVec F S1024x1024 .f32 :=
  k0_pay3 (k0_pay1 x) (k0_pay2 wq) (constant S1024x1024 .f32 0x00000000#32)
def part (x : FVec F S1x1024x1024 .f32) (wq : FVec F S1024x1024 .f32) (k v : FVec F S1x1024x8x128 .f32) (wo : FVec F S1024x1024 .f32) :
    FVec F S1024x1024 .f32 := k0_pay20 (ctx (query x wq) k v) wo

theorem slice_qcol (q : FVec F S1024x1024 .f32) (h : Fin 8) {o : Fin 2 → ℕ} (ho : o = ![0, 128 * h.val]) (hs) :
    extractStridedSlice S1024x128 o q hs = qcol q h := by
  subst ho
  funext i
  unfold extractStridedSlice qcol
  congr 1
  funext a
  match a with
  | 0 => exact Fin.ext (Nat.zero_add _)
  | 1 => rfl

theorem pay0 (x : FVec F S1024x1024 .f32) (w c0 : FVec F S1024x1024 .f32) (k v : FVec F S1x1024x1x128 .f32) :
    k0_pay5 x w c0 k v = headOf (qcol (k0_pay3 x w c0) 0) k v := by rw [← slice_qcol (k0_pay3 x w c0) 0 (o := ![0, 0]) rfl slices_S1024x1024_o0_0_S1024x128]; rfl
theorem pay1 (x : FVec F S1024x1024 .f32) (w c0 : FVec F S1024x1024 .f32) (k v : FVec F S1x1024x1x128 .f32) :
    k0_pay7 k0_pay4 (k0_pay6 x w c0) k v = headOf (qcol (k0_pay3 x w c0) 1) k v := by rw [← slice_qcol (k0_pay3 x w c0) 1 (o := ![0, 128]) rfl slices_S1024x1024_o0_128_S1024x128]; rfl
theorem pay2 (q : FVec F S1024x1024 .f32) (k v : FVec F S1x1024x1x128 .f32) :
    k0_pay10 (k0_pay8 q k0_pay4 k) (k0_pay9 q k0_pay4 k) v = headOf (qcol q 2) k v := by rw [← slice_qcol q 2 (o := ![0, 256]) rfl slices_S1024x1024_o0_256_S1024x128]; rfl
theorem pay3 (q : FVec F S1024x1024 .f32) (k v : FVec F S1x1024x1x128 .f32) :
    k0_pay11 q k0_pay4 k v = headOf (qcol q 3) k v := by rw [← slice_qcol q 3 (o := ![0, 384]) rfl slices_S1024x1024_o0_384_S1024x128]; rfl
theorem pay4 (q : FVec F S1024x1024 .f32) (k v : FVec F S1x1024x1x128 .f32) :
    k0_pay13 k0_pay4 (k0_pay12 q) k v = headOf (qcol q 4) k v := by rw [← slice_qcol q 4 (o := ![0, 512]) rfl slices_S1024x1024_o0_512_S1024x128]; rfl
theorem pay5 (q : FVec F S1024x1024 .f32) (k v : FVec F S1x1024x1x128 .f32) :
    k0_pay16 (k0_pay14 q k0_pay4 k) (k0_pay15 q k0_pay4 k) v = headOf (qcol q 5) k v := by rw [← slice_qcol q 5 (o := ![0, 640]) rfl slices_S1024x1024_o0_640_S1024x128]; rfl
theorem pay6 (q : FVec F S1024x1024 .f32) (k v : FVec F S1x1024x1x128 .f32) :
    k0_pay17 q k0_pay4 k v = headOf (qcol q 6) k v := by rw [← slice_qcol q 6 (o := ![0, 768]) rfl slices_S1024x1024_o0_768_S1024x128]; rfl
theorem pay7 (q : FVec F S1024x1024 .f32) (k v : FVec F S1x1024x1x128 .f32) :
    k0_pay19 k0_pay4 (k0_pay18 q) k v = headOf (qcol q 7) k v := by rw [← slice_qcol q 7 (o := ![0, 896]) rfl slices_S1024x1024_o0_896_S1024x128]; rfl

/-! ### Reading a head, storing a head -/

theorem read_k (k : FVec F S1x1024x8x128 .f32) (h : Fin 8)
    (inb : ∀ a, (![0, 0, h.val, 0] : Fin 4 → ℕ) a + S1x1024x1x128.size a ≤ S1x1024x8x128.size a) :
    b2M.view.readAt (Elt F) (Rect.unit (s := S1x1024x8x128) ![0, 0, h.val, 0] S1x1024x1x128.size inb).toLoadRect k = piece k h := by
  funext x
  refine (show _ = k ((b2M.view.slice (Rect.unit (s := S1x1024x8x128) ![0, 0, h.val, 0] S1x1024x1x128.size inb)).emb x) from rfl).trans ?_
  unfold piece
  congr 1
  funext a
  apply Fin.ext
  refine (ValueKit.view_emb_slice_whole_unit_val cc0_stg2_0 _ _ inb x a).trans ?_
  match a with
  | 0 => exact Nat.zero_add _
  | 1 => exact Nat.zero_add _
  | 2 => have h2 : (x 2).val < 1 := (x 2).isLt
         show h.val + (x 2).val = h.val
         omega
  | 3 => exact Nat.zero_add _
theorem read_v (v : FVec F S1x1024x8x128 .f32) (h : Fin 8)
    (inb : ∀ a, (![0, 0, h.val, 0] : Fin 4 → ℕ) a + S1x1024x1x128.size a ≤ S1x1024x8x128.size a) :
    b3M.view.readAt (Elt F) (Rect.unit (s := S1x1024x8x128) ![0, 0, h.val, 0] S1x1024x1x128.size inb).toLoadRect v = piece v h :=
  read_k v h inb

theorem head_emb {h : ℕ} {inb : ∀ a, (![0, 128 * h] : Fin 2 → ℕ) a + S1024x128.size a ≤ S1024x1024.size a}
    (x : S1024x128.Idx) (hh : 128 * h + (x 1).val < 1024) :
    (cM.view.slice (Rect.unit (s := S1024x1024) ![0, 128 * h] S1024x128.size inb)).emb x
      = (ix2 (n0 := 1024) (n1 := 1024) (x 0) ⟨128 * h + (x 1).val, hh⟩ : S1024x1024.Idx) := by
  funext a
  apply Fin.ext
  refine (ValueKit.view_emb_slice_whole_unit_val cc0_scratch0 _ _ inb x a).trans ?_
  match a with
  | 0 => exact Nat.zero_add _
  | 1 => rfl

/-- Storing head `h` after the heads below it. -/
theorem store_head (q : FVec F S1024x1024 .f32) (k v : FVec F S1x1024x8x128 .f32) (h : Fin 8)
    (inb : ∀ a, (![0, 128 * h.val] : Fin 2 → ℕ) a + S1024x128.size a ≤ S1024x1024.size a) (g : FVec F S1024x1024 .f32)
    (hg : ∀ i : S1024x1024.Idx, (i 1).val < 128 * h.val → g i = ctx q k v i) :
    ∀ i : S1024x1024.Idx, (i 1).val < 128 * (h.val + 1) →
      (cM.access (Rect.unit (s := S1024x1024) ![0, 128 * h.val] S1024x128.size inb)).write (Elt F) g
        (headOf (qcol q h) (piece k h) (piece v h)) Finset.univ i = ctx q k v i := by
  intro i hi
  by_cases hlt : (i 1).val < 128 * h.val
  · refine (View.write_of_not_mem _ _ _ ?_).trans (hg i hlt)
    rw [View.setOn_univ]
    intro hm
    obtain ⟨x, -, hx⟩ := Finset.mem_map.mp hm
    have hx1 : (x 1).val < 128 := (x 1).isLt
    have := (head_emb (inb := inb) x (by omega)).symm.trans hx
    have h1 : 128 * h.val + (x 1).val = (i 1).val := by rw [← this]
    omega
  · have hd : (i 1).val / 128 = h.val := by omega
    let x : S1024x128.Idx := ix2 (n0 := 1024) (n1 := 128) (i 0) ⟨(i 1).val % 128, Nat.mod_lt _ (by norm_num)⟩
    have hx1 : (x 1).val = (i 1).val % 128 := rfl
    have hi' : i = (cM.view.slice (Rect.unit (s := S1024x1024) ![0, 128 * h.val] S1024x128.size inb)).emb x := by
      rw [head_emb x (by rw [hx1]; omega)]
      refine (eq_ix2 (n0 := 1024) (n1 := 1024) i).trans ?_
      congr 1
      apply Fin.ext
      show (i 1).val = 128 * h.val + (i 1).val % 128
      omega
    refine (congrArg _ hi').trans ?_
    refine (View.write_emb_of_mem _ _ (Finset.mem_univ x)).trans ?_
    unfold ctx
    have hh : (⟨(i 1).val / 128, by have := (i 1).isLt; have : (i 1).val < 1024 := this; omega⟩ : Fin 8) = h := Fin.ext hd
    rw [hh]
    rfl

/-- The keys and values, and the first `n` heads' results in place. -/
def Att (q : FVec F S1024x1024 .f32) (k v : FVec F S1x1024x8x128 .f32) (c : Dev nD) (n : ℕ) : sProp (MT nD τ sig Unit (Elt F) ℕ UU ℕ) :=
  iprop(stg c cc0_stg2_0 k ∗ stg c cc0_stg3_0 v
    ∗ ∃ g : FVec F S1024x1024 .f32, ⌜∀ i : S1024x1024.Idx, (i 1).val < 128 * n → g i = ctx q k v i⌝ ∗ stg c cc0_scratch0 g)

section Ops

variable {α : Type} {k : PUnit.{1} → Prog (TpuEff nD τ sig (Elt F) Λ₀ .tc) α}
variable {kk : Vec F S1x1024x1x128 .f32 → Prog (TpuEff nD τ sig (Elt F) Λ₀ .tc) α}
variable {Q : α → sProp (MT nD τ sig Unit (Elt F) ℕ UU ℕ)}
variable {R : sProp (MT nD τ sig Unit (Elt F) ℕ UU ℕ)}
variable (q : FVec F S1024x1024 .f32) (kb vb : FVec F S1x1024x8x128 .f32)

theorem op_k (h : Fin 8) (n : ℕ) (c : Dev nD) {o : Fin 4 → ℕ} (ho : o = ![0, 0, h.val, 0])
    {inb : ∀ a, o a + S1x1024x1x128.size a ≤ S1x1024x8x128.size a} {h1}
    (H : iprop(Att q kb vb c n ∗ R) ⊢ wp frame (wpE (defs₀ (F := F)) 𝒱₀ (c : Thread nD τ) none) Set.univ (kk (piece kb h)) Q) :
    iprop(Att q kb vb c n ∗ R) ⊢ wp frame (wpE (defs₀ (F := F)) 𝒱₀ (c : Thread nD τ) none) Set.univ
      (.op (.load b2M (Rect.unit (s := S1x1024x8x128) o S1x1024x1x128.size inb).toLoadRect h1) kk) Q := by
  subst ho
  unfold Att
  iintro ⟨⟨Hk, Hv, Hs⟩, HR⟩
  iapply (wp_load (m := b2M) 𝒱₀ (c : Thread nD τ) none Set.univ (S := Finset.univ) (Finset.subset_univ _)) $$ Hk
  iintro Hk
  rw [read_k]
  iapply H
  unfold Att
  isplitr [HR]
  · isplitl [Hk]; · iexact Hk
    isplitl [Hv] <;> iassumption
  iexact HR

theorem op_v (h : Fin 8) (n : ℕ) (c : Dev nD) {o : Fin 4 → ℕ} (ho : o = ![0, 0, h.val, 0])
    {inb : ∀ a, o a + S1x1024x1x128.size a ≤ S1x1024x8x128.size a} {h1}
    (H : iprop(Att q kb vb c n ∗ R) ⊢ wp frame (wpE (defs₀ (F := F)) 𝒱₀ (c : Thread nD τ) none) Set.univ (kk (piece vb h)) Q) :
    iprop(Att q kb vb c n ∗ R) ⊢ wp frame (wpE (defs₀ (F := F)) 𝒱₀ (c : Thread nD τ) none) Set.univ
      (.op (.load b3M (Rect.unit (s := S1x1024x8x128) o S1x1024x1x128.size inb).toLoadRect h1) kk) Q := by
  subst ho
  unfold Att
  iintro ⟨⟨Hk, Hv, Hs⟩, HR⟩
  iapply (wp_load (m := b3M) 𝒱₀ (c : Thread nD τ) none Set.univ (S := Finset.univ) (Finset.subset_univ _)) $$ Hv
  iintro Hv
  rw [read_v]
  iapply H
  unfold Att
  isplitr [HR]
  · isplitl [Hk]; · iexact Hk
    isplitl [Hv] <;> iassumption
  iexact HR

theorem op_head (h : Fin 8) (c : Dev nD) {o : Fin 2 → ℕ} (ho : o = ![0, 128 * h.val])
    {inb : ∀ a, o a + S1024x128.size a ≤ S1024x1024.size a} {w : FVec F S1024x128 .f32}
    (hw : w = headOf (qcol q h) (piece kb h) (piece vb h)) {h1 h2 h3}
    (H : iprop(Att q kb vb c (h.val + 1) ∗ R) ⊢ wp frame (wpE (defs₀ (F := F)) 𝒱₀ (c : Thread nD τ) none) Set.univ (k ⟨⟩) Q) :
    iprop(Att q kb vb c h.val ∗ R) ⊢ wp frame (wpE (defs₀ (F := F)) 𝒱₀ (c : Thread nD τ) none) Set.univ
      (.op (.load cM (Rect.unit (s := S1024x1024) o S1024x128.size inb).toLoadRect h1) fun _ =>
        .op (.store cM (Rect.unit (s := S1024x1024) o S1024x128.size inb) w Finset.univ h2 h3) k) Q := by
  subst ho hw
  unfold Att
  iintro ⟨⟨Hk, Hv, ⟨%g, %hg, Hs⟩⟩, HR⟩
  iapply (wp_load (m := cM) 𝒱₀ (c : Thread nD τ) none Set.univ (S := Finset.univ) (Finset.subset_univ _)) $$ Hs
  iintro Hs
  iapply (wp_store (m := cM) (r := Rect.unit (s := S1024x1024) ![0, 128 * h.val] S1024x128.size inb) 𝒱₀ (c : Thread nD τ) none Set.univ (S := Finset.univ) (Finset.subset_univ _)) $$ Hs
  iintro Hs
  iapply H
  unfold Att
  isplitr [HR]
  · isplitl [Hk]; · iexact Hk
    isplitl [Hv]; · iexact Hv
    iexists _
    isplitr
    · ipureintro; exact store_head q kb vb h inb g hg
    iexact Hs
  iexact HR

end Ops

end Cert.KernelIdeal.Xchg
end
-- ==== Proof.AttParts.lean ====
/- The attention parts of the body: the handshake and the first loads, the eight heads, the device's summand. -/
module

public import proofs.«01_k».proof.Proof.Heads

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem zero2 : (![0, 0] : Fin 2 → ℕ) = fun _ => 0 := funext fun a => by fin_cases a <;> rfl
theorem zero3 : (![0, 0, 0] : Fin 3 → ℕ) = fun _ => 0 := funext fun a => by fin_cases a <;> rfl

theorem whole_c (g : FVec F S1024x1024 .f32) {inb} : cM.view.readAt (Elt F) (Rect.unit (s := S1024x1024) ![0, 0] ![1024, 1024] inb).toLoadRect g = g :=
  Memref.readAt_unit_zero (Elt F) cc0_scratch0 zero2 _ _
theorem whole_a (g : FVec F S1024x1024 .f32) {inb} : aM.view.readAt (Elt F) (Rect.unit (s := S1024x1024) ![0, 0] ![1024, 1024] inb).toLoadRect g = g :=
  Memref.readAt_unit_zero (Elt F) aB zero2 _ _
theorem whole_0 (g : FVec F S1x1024x1024 .f32) {inb} : b0M.view.readAt (Elt F) (Rect.unit (s := S1x1024x1024) ![0, 0, 0] ![1, 1024, 1024] inb).toLoadRect g = g :=
  Memref.readAt_unit_zero (Elt F) cc0_stg0_0 zero3 _ _
theorem whole_1 (g : FVec F S1024x1024 .f32) {inb} : b1M.view.readAt (Elt F) (Rect.unit (s := S1024x1024) ![0, 0] ![1024, 1024] inb).toLoadRect g = g :=
  Memref.readAt_unit_zero (Elt F) cc0_stg1_0 zero2 _ _
theorem whole_4 (g : FVec F S1024x1024 .f32) {inb} : b4M.view.readAt (Elt F) (Rect.unit (s := S1024x1024) ![0, 0] ![1024, 1024] inb).toLoadRect g = g :=
  Memref.readAt_unit_zero (Elt F) cc0_stg4_0 zero2 _ _
theorem write_a (g w : FVec F S1024x1024 .f32) {inb} :
    (aM.access (Rect.unit (s := S1024x1024) ![0, 0] ![1024, 1024] inb)).write (Elt F) g w Finset.univ = w :=
  Memref.write_access_unit_zero_univ (Elt F) aB zero2 _ _ _
theorem write_5 (g w : FVec F S1x1024x1024 .f32) {inb} :
    (b5M.access (Rect.unit (s := S1x1024x1024) ![0, 0, 0] ![1, 1024, 1024] inb)).write (Elt F) g w Finset.univ = w :=
  Memref.write_access_unit_zero_univ (Elt F) cc0_stg5_0 zero3 _ _ _

variable {R : sProp (MT nD τ sig Unit (Elt F) ℕ UU ℕ)}

theorem part2 (c : Dev nD) {h0 h1 h2 h3 h4 h5 h6 h7 h8} (x w c0 : FVec F S1024x1024 .f32) (kb vb : FVec F S1x1024x8x128 .f32) {Q}
    (h : iprop(Att (k0_pay3 x w c0) kb vb c 1 ∗ R) ⊢ Q ⟨k0_pay3 x w c0, k0_pay4, k0_pay6 x w c0⟩) :
    iprop(Att (k0_pay3 x w c0) kb vb c 0 ∗ R) ⊢ wp frame (wpE (defs₀ (F := F)) 𝒱₀ (c : Thread nD τ) none) Set.univ
      (k0_part2 b0M h0 b1M h1 b2M h2 b3M h3 b4M h4 b5M h5 cM h6 aM h7 xM h8 cc0_scratch3 cc0_scratch4 cc0_scratch5 cc0_scratch6 x w c0) Q := by
  rw [k0_part2_eq_skeleton]
  unfold k0_part2_skel
  simp only [Prog.lift, Prog.bind_op, Prog.bind_ret, Prog.pure_eq_ret]
  refine op_k (k0_pay3 x w c0) kb vb 0 0 c rfl ?_
  refine op_v (k0_pay3 x w c0) kb vb 0 0 c rfl ?_
  refine op_head (k0_pay3 x w c0) kb vb 0 c rfl (pay0 _ _ _ _ _) ?_
  rw [wp_ret]
  exact h.trans fupd_intro

theorem part3 (c : Dev nD) {h0 h1 h2 h3 h4 h5 h6 h7 h8} (x w c0 : FVec F S1024x1024 .f32) (kb vb : FVec F S1x1024x8x128 .f32) {Q}
    (h : iprop(Att (k0_pay3 x w c0) kb vb c 2 ∗ R) ⊢ Q ⟨k0_pay8 (k0_pay3 x w c0) k0_pay4 (piece kb 2), k0_pay9 (k0_pay3 x w c0) k0_pay4 (piece kb 2)⟩) :
    iprop(Att (k0_pay3 x w c0) kb vb c 1 ∗ R) ⊢ wp frame (wpE (defs₀ (F := F)) 𝒱₀ (c : Thread nD τ) none) Set.univ
      (k0_part3 b0M h0 b1M h1 b2M h2 b3M h3 b4M h4 b5M h5 cM h6 aM h7 xM h8 cc0_scratch3 cc0_scratch4 cc0_scratch5 cc0_scratch6 (k0_pay3 x w c0) k0_pay4 (k0_pay6 x w c0)) Q := by
  rw [k0_part3_eq_skeleton]
  unfold k0_part3_skel
  simp only [Prog.lift, Prog.bind_op, Prog.bind_ret, Prog.pure_eq_ret]
  refine op_k (k0_pay3 x w c0) kb vb 1 1 c rfl ?_
  refine op_v (k0_pay3 x w c0) kb vb 1 1 c rfl ?_
  refine op_head (k0_pay3 x w c0) kb vb 1 c rfl (pay1 _ _ _ _ _) ?_
  refine op_k (k0_pay3 x w c0) kb vb 2 2 c rfl ?_
  rw [wp_ret]
  exact h.trans fupd_intro

theorem part4 (c : Dev nD) {h0 h1 h2 h3 h4 h5 h6 h7 h8} (q : FVec F S1024x1024 .f32) (kb vb : FVec F S1x1024x8x128 .f32) {Q}
    (h : iprop(Att q kb vb c 4 ∗ R) ⊢ Q (k0_pay12 q)) :
    iprop(Att q kb vb c 2 ∗ R) ⊢ wp frame (wpE (defs₀ (F := F)) 𝒱₀ (c : Thread nD τ) none) Set.univ
      (k0_part4 b0M h0 b1M h1 b2M h2 b3M h3 b4M h4 b5M h5 cM h6 aM h7 xM h8 cc0_scratch3 cc0_scratch4 cc0_scratch5 cc0_scratch6 q k0_pay4 (k0_pay8 q k0_pay4 (piece kb 2)) (k0_pay9 q k0_pay4 (piece kb 2))) Q := by
  rw [k0_part4_eq_skeleton]
  unfold k0_part4_skel
  simp only [Prog.lift, Prog.bind_op, Prog.bind_ret, Prog.pure_eq_ret]
  refine op_v q kb vb 2 2 c rfl ?_
  refine op_head q kb vb 2 c rfl (pay2 _ _ _) ?_
  refine op_k q kb vb 3 3 c rfl ?_
  refine op_v q kb vb 3 3 c rfl ?_
  refine op_head q kb vb 3 c rfl (pay3 _ _ _) ?_
  rw [wp_ret]
  exact h.trans fupd_intro

theorem part5 (c : Dev nD) {h0 h1 h2 h3 h4 h5 h6 h7 h8} (q : FVec F S1024x1024 .f32) (kb vb : FVec F S1x1024x8x128 .f32) {Q}
    (h : iprop(Att q kb vb c 5 ∗ R) ⊢ Q ⟨k0_pay14 q k0_pay4 (piece kb 5), k0_pay15 q k0_pay4 (piece kb 5)⟩) :
    iprop(Att q kb vb c 4 ∗ R) ⊢ wp frame (wpE (defs₀ (F := F)) 𝒱₀ (c : Thread nD τ) none) Set.univ
      (k0_part5 b0M h0 b1M h1 b2M h2 b3M h3 b4M h4 b5M h5 cM h6 aM h7 xM h8 cc0_scratch3 cc0_scratch4 cc0_scratch5 cc0_scratch6 q k0_pay4 (k0_pay12 q)) Q := by
  rw [k0_part5_eq_skeleton]
  unfold k0_part5_skel
  simp only [Prog.lift, Prog.bind_op, Prog.bind_ret, Prog.pure_eq_ret]
  refine op_k q kb vb 4 4 c rfl ?_
  refine op_v q kb vb 4 4 c rfl ?_
  refine op_head q kb vb 4 c rfl (pay4 _ _ _) ?_
  refine op_k q kb vb 5 5 c rfl ?_
  rw [wp_ret]
  exact h.trans fupd_intro

theorem part6 (c : Dev nD) {h0 h1 h2 h3 h4 h5 h6 h7 h8} (q : FVec F S1024x1024 .f32) (kb vb : FVec F S1x1024x8x128 .f32) {Q}
    (h : iprop(Att q kb vb c 7 ∗ R) ⊢ Q (k0_pay18 q)) :
    iprop(Att q kb vb c 5 ∗ R) ⊢ wp frame (wpE (defs₀ (F := F)) 𝒱₀ (c : Thread nD τ) none) Set.univ
      (k0_part6 b0M h0 b1M h1 b2M h2 b3M h3 b4M h4 b5M h5 cM h6 aM h7 xM h8 cc0_scratch3 cc0_scratch4 cc0_scratch5 cc0_scratch6 q k0_pay4 (k0_pay14 q k0_pay4 (piece kb 5)) (k0_pay15 q k0_pay4 (piece kb 5))) Q := by
  rw [k0_part6_eq_skeleton]
  unfold k0_part6_skel
  simp only [Prog.lift, Prog.bind_op, Prog.bind_ret, Prog.pure_eq_ret]
  refine op_v q kb vb 5 5 c rfl ?_
  refine op_head q kb vb 5 c rfl (pay5 _ _ _) ?_
  refine op_k q kb vb 6 6 c rfl ?_
  refine op_v q kb vb 6 6 c rfl ?_
  refine op_head q kb vb 6 c rfl (pay6 _ _ _) ?_
  rw [wp_ret]
  exact h.trans fupd_intro

theorem part7 (c : Dev nD) {h0 h1 h2 h3 h4 h5 h6 h7 h8} (q : FVec F S1024x1024 .f32) (kb vb : FVec F S1x1024x8x128 .f32) (wo : FVec F S1024x1024 .f32) {v2 : BitVec 32} {Q}
    (h : ∀ r, iprop(Att q kb vb c 8 ∗ (stg c cc0_stg4_0 wo ∗ accW c (k0_pay20 (ctx q kb vb) wo)) ∗ R) ⊢ Q r) :
    iprop(Att q kb vb c 7 ∗ (stg c cc0_stg4_0 wo ∗ ∃ g, accW c g) ∗ R) ⊢ wp frame (wpE (defs₀ (F := F)) 𝒱₀ (c : Thread nD τ) none) Set.univ
      (k0_part7 b0M h0 b1M h1 b2M h2 b3M h3 b4M h4 b5M h5 cM h6 aM h7 xM h8 cc0_scratch3 cc0_scratch4 cc0_scratch5 cc0_scratch6 v2 k0_pay4 (k0_pay18 q)) Q := by
  rw [k0_part7_eq_skeleton]
  unfold k0_part7_skel
  simp only [Prog.lift, Prog.bind_op, Prog.bind_ret, Prog.pure_eq_ret]
  refine op_k q kb vb 7 7 c rfl ?_
  refine op_v q kb vb 7 7 c rfl ?_
  refine op_head q kb vb 7 c rfl (pay7 _ _ _) ?_
  unfold Att
  iintro ⟨⟨Hk, Hv, ⟨%g, %hg, Hs⟩⟩, ⟨Hw, ⟨%g', HA⟩⟩, HR⟩
  have hgc : g = ctx q kb vb := funext fun i => hg i (i 1).isLt
  subst hgc
  iapply (wp_load (m := cM) 𝒱₀ (c : Thread nD τ) none Set.univ (S := Finset.univ) (Finset.subset_univ _)) $$ Hs
  iintro Hs
  rw [whole_c]
  iapply (wp_load (m := b4M) 𝒱₀ (c : Thread nD τ) none Set.univ (S := Finset.univ) (Finset.subset_univ _)) $$ Hw
  iintro Hw
  rw [whole_4]
  unfold accW
  iapply (wp_load (m := aM) 𝒱₀ (c : Thread nD τ) none Set.univ (S := Finset.univ) (Finset.subset_univ _)) $$ HA
  iintro HA
  iapply (wp_store (m := aM) (r := Rect.unit (s := S1024x1024) ![0, 0] S1024x1024.size inb_S1024x1024_S1024x1024_0_0) 𝒱₀ (c : Thread nD τ) none Set.univ (S := Finset.univ) (Finset.subset_univ _)) $$ HA
  iintro HA
  rw [write_a]
  rw [wp_ret]
  imodintro
  iapply (h _)
  unfold Att accW
  isplitl [Hk Hv Hs]
  · isplitl [Hk]; · iexact Hk
    isplitl [Hv]; · iexact Hv
    iexists _
    isplitr
    · ipureintro; exact fun _ _ => rfl
    iexact Hs
  isplitl [Hw HA]
  · isplitl [Hw] <;> iassumption
  iexact HR

theorem part1 (K : GSem nD τ sig → ℕ) (f : Dev nD → AccC F) (c : Dev nD) {h0 h1 h2 h3 h4 h5 h6 h7 h8} (x : FVec F S1x1024x1024 .f32) (wq : FVec F S1024x1024 .f32) {Q}
    (h : ∀ v2, iprop(BarW c ∗ (stg c cc0_stg0_0 x ∗ stg c cc0_stg1_0 wq) ∗ R)
      ⊢ Q ⟨c, v2, k0_pay1 x, k0_pay2 wq, constant S1024x1024 .f32 0x00000000#32⟩) :
    iprop(BarSt K f c [0, 1, 2, 3, 4] ∗ (stg c cc0_stg0_0 x ∗ stg c cc0_stg1_0 wq) ∗ R) ⊢ wp frame (wpE (defs₀ (F := F)) 𝒱₀ (c : Thread nD τ) none) Set.univ
      (k0_part1 b0M h0 b1M h1 b2M h2 b3M h3 b4M h4 b5M h5 cM h6 aM h7 xM h8 cc0_scratch3 cc0_scratch4 cc0_scratch5 cc0_scratch6) Q := by
  rw [k0_part1_eq_skeleton]
  unfold k0_part1_skel semSignalWord semWaitWord
  simp only [Prog.lift, Prog.bind_op, Prog.bind_ret, Prog.pure_eq_ret, wp_deviceId]
  refine op_sig K f 0 _ c (dev_facts c).1.1 rfl ?_
  refine op_sig K f 1 _ c (dev_facts c).1.2.1 rfl ?_
  refine op_sig K f 2 _ c (dev_facts c).1.2.2.1 rfl ?_
  refine op_sig K f 3 _ c (dev_facts c).1.2.2.2.1 rfl ?_
  refine op_sig K f 4 _ c (dev_facts c).1.2.2.2.2 rfl ?_
  refine op_barwait K f c rfl ?_
  iintro ⟨HB, ⟨Hx, Hw⟩, HR⟩
  iapply (wp_load (m := b0M) 𝒱₀ (c : Thread nD τ) none Set.univ (S := Finset.univ) (Finset.subset_univ _)) $$ Hx
  iintro Hx
  rw [whole_0]
  iapply (wp_load (m := b1M) 𝒱₀ (c : Thread nD τ) none Set.univ (S := Finset.univ) (Finset.subset_univ _)) $$ Hw
  iintro Hw
  rw [whole_1]
  rw [wp_ret]
  imodintro
  iapply (h _)
  isplitl [HB]; · iexact HB
  isplitl [Hx Hw]
  · isplitl [Hx] <;> iassumption
  iexact HR

theorem part8 (c : Dev nD) {h0 h1 h2 h3 h4 h5 h6 h7 h8} {v2 c1 v227 v232 : BitVec 32} {Q} (h : ∀ r, R ⊢ Q r) :
    R ⊢ wp frame (wpE (defs₀ (F := F)) 𝒱₀ (c : Thread nD τ) none) Set.univ (k0_part8 b0M h0 b1M h1 b2M h2 b3M h3 b4M h4 b5M h5 cM h6 aM h7 xM h8 cc0_scratch3 cc0_scratch4 cc0_scratch5 cc0_scratch6 c v2 c1 v227 v232) Q := by
  rw [k0_part8_eq_skeleton]
  unfold k0_part8_skel
  simp only [Prog.pure_eq_ret]
  rw [wp_ret]
  exact (h _).trans fupd_intro

theorem part15 (c : Dev nD) {h0 h1 h2 h3 h4 h5 h6 h7 h8} {v2 v444 c16 v471 c0 : BitVec 32} {Q} (h : ∀ r, R ⊢ Q r) :
    R ⊢ wp frame (wpE (defs₀ (F := F)) 𝒱₀ (c : Thread nD τ) none) Set.univ (k0_part15 b0M h0 b1M h1 b2M h2 b3M h3 b4M h4 b5M h5 cM h6 aM h7 xM h8 cc0_scratch3 cc0_scratch4 cc0_scratch5 cc0_scratch6 v2 v444 c16 v471 c0) Q := by
  rw [k0_part15_eq_skeleton]
  unfold k0_part15_skel
  simp only [Prog.pure_eq_ret]
  rw [wp_ret]
  exact (h _).trans fupd_intro

end Cert.KernelIdeal.Xchg
end
-- ==== Proof.Parts.lean ====
/- The exchange's parts: each printed part as a step between the exchange's states, on any device. -/
module

public import proofs.«01_k».proof.Proof.Trans
public import proofs.«01_k».proof.Proof.Gen.KernelIdeal.Skeleton

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem pay21_at (u v : Vec F S512x1024 .f32) (x : S512x1024.Idx) : k0_pay21 u v x = FloatOps.addf (u x) (v x) := by
  unfold k0_pay21
  rw [shapeCast_self]
  rfl
theorem pay22_at (u v : Vec F S256x1024 .f32) (x : S256x1024.Idx) : k0_pay22 u v x = FloatOps.addf (u x) (v x) := by
  unfold k0_pay22
  rw [shapeCast_self]
  rfl
theorem pay23_at (u v : Vec F S128x1024 .f32) (x : S128x1024.Idx) : k0_pay23 u v x = FloatOps.addf (u x) (v x) := by
  unfold k0_pay23
  rw [shapeCast_self]
  rfl
theorem pay24_at (u v : Vec F S64x1024 .f32) (x : S64x1024.Idx) : k0_pay24 u v x = FloatOps.addf (u x) (v x) := by
  unfold k0_pay24
  rw [shapeCast_self]
  rfl
theorem pay25_at (u v : Vec F S32x1024 .f32) (x : S32x1024.Idx) : k0_pay25 u v x = FloatOps.addf (u x) (v x) := by
  unfold k0_pay25
  rw [shapeCast_self]
  rfl
theorem pay26_eq (v : Vec F S32x1024 .f32) : k0_pay26 v = v := by
  unfold k0_pay26
  rw [shapeCast_self]
theorem pay27_eq (v : Vec F S64x1024 .f32) : k0_pay27 v = v := by
  unfold k0_pay27
  rw [shapeCast_self]
theorem pay28_eq (v : Vec F S128x1024 .f32) : k0_pay28 v = v := by
  unfold k0_pay28
  rw [shapeCast_self]
theorem pay29_eq (v : Vec F S256x1024 .f32) : k0_pay29 v = v := by
  unfold k0_pay29
  rw [shapeCast_self]
theorem pay30_eq (v : Vec F S512x1024 .f32) : k0_pay30 v = v := by
  unfold k0_pay30
  rw [shapeCast_self]

variable (K : GSem nD τ sig → ℕ) (f : Dev nD → AccC F)
variable {R : sProp (MT nD τ sig Unit (Elt F) ℕ UU ℕ)}

theorem part9 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v254 : BitVec 32} {v261 : BitVec 32} {Q}
    (h : ∀ r, iprop(St K f c 1 ∗ R) ⊢ Q r) :
    iprop(St K f c 0 ∗ R) ⊢ wp frame (wpE (defs₀ (F := F)) 𝒱₀ (c : Thread nD τ) none) Set.univ
      (k0_part9 a0 h0 a1 h1 a2 h2 a3 h3 a4 h4 a5 h5 a6 h6 aM h7 xM h8 cc0_scratch3 cc0_scratch4 cc0_scratch5 cc0_scratch6 c v2 v254 v261) Q := by
  rw [k0_part9_eq_skeleton]
  unfold k0_part9_skel
  simp only [Prog.lift, Prog.bind_op, Prog.bind_ret, Prog.pure_eq_ret]
  refine op_send K f 0 c (n := 512) rfl (off_facts c).1.1 rfl (dev_facts c).2.1 rfl rfl ?_
  refine op_wsA K f 0 c (n := 512) rfl rfl ?_
  refine op_wr K f 0 c rfl rfl ?_
  refine op_foldRS K f 0 c (by decide) (n := 512) rfl (off_facts c).2.1 rfl (fun _ _ _ => pay21_at _ _ _) ?_
  rw [wp_ret]
  exact (h _).trans fupd_intro

theorem part10 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v261 : BitVec 32} {v288 : BitVec 32} {v302 : BitVec 1} {Q}
    (h : ∀ r, iprop(StW K f c 1 ∗ R) ⊢ Q r) :
    iprop(St K f c 1 ∗ R) ⊢ wp frame (wpE (defs₀ (F := F)) 𝒱₀ (c : Thread nD τ) none) Set.univ
      (k0_part10 a0 h0 a1 h1 a2 h2 a3 h3 a4 h4 a5 h5 a6 h6 aM h7 xM h8 cc0_scratch3 cc0_scratch4 cc0_scratch5 cc0_scratch6 c v2 v261 v288 v302) Q := by
  rw [k0_part10_eq_skeleton]
  unfold k0_part10_skel
  simp only [Prog.lift, Prog.bind_op, Prog.bind_ret, Prog.pure_eq_ret]
  refine op_send K f 1 c (n := 256) rfl (off_facts c).1.2.1 rfl (dev_facts c).2.2.1 rfl rfl ?_
  refine op_wsA K f 1 c (n := 256) rfl rfl ?_
  rw [wp_ret]
  exact (h _).trans fupd_intro

theorem part11 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v315 : BitVec 32} {v322 : BitVec 32} {Q}
    (h : ∀ r, iprop(St K f c 2 ∗ R) ⊢ Q r) :
    iprop(StW K f c 1 ∗ R) ⊢ wp frame (wpE (defs₀ (F := F)) 𝒱₀ (c : Thread nD τ) none) Set.univ
      (k0_part11 a0 h0 a1 h1 a2 h2 a3 h3 a4 h4 a5 h5 a6 h6 aM h7 xM h8 cc0_scratch3 cc0_scratch4 cc0_scratch5 cc0_scratch6 c v2 v315 v322) Q := by
  rw [k0_part11_eq_skeleton]
  unfold k0_part11_skel
  simp only [Prog.lift, Prog.bind_op, Prog.bind_ret, Prog.pure_eq_ret]
  refine op_wr K f 1 c rfl rfl ?_
  refine op_foldRS K f 1 c (by decide) (n := 256) rfl (off_facts c).2.2.1 rfl (fun _ _ _ => pay22_at _ _ _) ?_
  rw [wp_ret]
  exact (h _).trans fupd_intro

theorem part12 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v322 : BitVec 32} {v367 : BitVec 32} {v368 : BitVec 32} {v369 : BitVec 1} {v370 : BitVec 1} {c0_i32_236 : BitVec 32} {Q}
    (h : ∀ r, iprop(StR K f c 2 ∗ R) ⊢ Q r) :
    iprop(St K f c 2 ∗ R) ⊢ wp frame (wpE (defs₀ (F := F)) 𝒱₀ (c : Thread nD τ) none) Set.univ
      (k0_part12 a0 h0 a1 h1 a2 h2 a3 h3 a4 h4 a5 h5 a6 h6 aM h7 xM h8 cc0_scratch3 cc0_scratch4 cc0_scratch5 cc0_scratch6 c v2 v322 v367 v368 v369 v370 c0_i32_236) Q := by
  rw [k0_part12_eq_skeleton]
  unfold k0_part12_skel
  simp only [Prog.lift, Prog.bind_op, Prog.bind_ret, Prog.pure_eq_ret]
  refine op_send K f 2 c (n := 128) rfl (off_facts c).1.2.2.1 rfl (dev_facts c).2.2.2.1 rfl rfl ?_
  refine op_wsA K f 2 c (n := 128) rfl rfl ?_
  refine op_wr K f 2 c rfl rfl ?_
  rw [wp_ret]
  exact (h _).trans fupd_intro

theorem part13 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v383 : BitVec 32} {Q}
    (h : ∀ r, iprop(St K f c 3 ∗ R) ⊢ Q r) :
    iprop(StR K f c 2 ∗ R) ⊢ wp frame (wpE (defs₀ (F := F)) 𝒱₀ (c : Thread nD τ) none) Set.univ
      (k0_part13 a0 h0 a1 h1 a2 h2 a3 h3 a4 h4 a5 h5 a6 h6 aM h7 xM h8 cc0_scratch3 cc0_scratch4 cc0_scratch5 cc0_scratch6 c v2 v383) Q := by
  rw [k0_part13_eq_skeleton]
  unfold k0_part13_skel
  simp only [Prog.lift, Prog.bind_op, Prog.bind_ret, Prog.pure_eq_ret]
  refine op_foldRS K f 2 c (by decide) (n := 128) rfl (off_facts c).2.2.2.1 rfl (fun _ _ _ => pay23_at _ _ _) ?_
  rw [wp_ret]
  exact (h _).trans fupd_intro

theorem part14 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v383 : BitVec 32} {v436 : BitVec 32} {v437 : BitVec 32} {c64_i32_279 : BitVec 32} {Q}
    (h : ∀ r, iprop(St K f c 4 ∗ R) ⊢ Q r) :
    iprop(St K f c 3 ∗ R) ⊢ wp frame (wpE (defs₀ (F := F)) 𝒱₀ (c : Thread nD τ) none) Set.univ
      (k0_part14 a0 h0 a1 h1 a2 h2 a3 h3 a4 h4 a5 h5 a6 h6 aM h7 xM h8 cc0_scratch3 cc0_scratch4 cc0_scratch5 cc0_scratch6 c v2 v383 v436 v437 c64_i32_279) Q := by
  rw [k0_part14_eq_skeleton]
  unfold k0_part14_skel
  simp only [Prog.lift, Prog.bind_op, Prog.bind_ret, Prog.pure_eq_ret]
  refine op_send K f 3 c (n := 64) rfl (off_facts c).1.2.2.2.1 rfl (dev_facts c).2.2.2.2.1 rfl rfl ?_
  refine op_wsA K f 3 c (n := 64) rfl rfl ?_
  refine op_wr K f 3 c rfl rfl ?_
  refine op_foldRS K f 3 c (by decide) (n := 64) rfl (off_facts c).2.2.2.2.1 rfl (fun _ _ _ => pay24_at _ _ _) ?_
  rw [wp_ret]
  exact (h _).trans fupd_intro

theorem part16 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v498 : BitVec 32} {v505 : BitVec 32} {Q}
    (h : ∀ r, iprop(St K f c 5 ∗ R) ⊢ Q r) :
    iprop(St K f c 4 ∗ R) ⊢ wp frame (wpE (defs₀ (F := F)) 𝒱₀ (c : Thread nD τ) none) Set.univ
      (k0_part16 a0 h0 a1 h1 a2 h2 a3 h3 a4 h4 a5 h5 a6 h6 aM h7 xM h8 cc0_scratch3 cc0_scratch4 cc0_scratch5 cc0_scratch6 c v2 v498 v505) Q := by
  rw [k0_part16_eq_skeleton]
  unfold k0_part16_skel
  simp only [Prog.lift, Prog.bind_op, Prog.bind_ret, Prog.pure_eq_ret]
  refine op_send K f 4 c (n := 32) rfl (off_facts c).1.2.2.2.2.1 rfl (dev_facts c).2.2.2.2.2.1 rfl rfl ?_
  refine op_wsA K f 4 c (n := 32) rfl rfl ?_
  refine op_wr K f 4 c rfl rfl ?_
  refine op_foldRS K f 4 c (by decide) (n := 32) rfl (off_facts c).2.2.2.2.2.1 rfl (fun _ _ _ => pay25_at _ _ _) ?_
  rw [wp_ret]
  exact (h _).trans fupd_intro

theorem part17 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v532 : BitVec 32} {v534 : BitVec 32} {v535 : BitVec 32} {Q}
    (h : ∀ r, iprop(St K f c 6 ∗ R) ⊢ Q r) :
    iprop(St K f c 5 ∗ R) ⊢ wp frame (wpE (defs₀ (F := F)) 𝒱₀ (c : Thread nD τ) none) Set.univ
      (k0_part17 a0 h0 a1 h1 a2 h2 a3 h3 a4 h4 a5 h5 a6 h6 aM h7 xM h8 cc0_scratch3 cc0_scratch4 cc0_scratch5 cc0_scratch6 c v2 v532 v534 v535) Q := by
  rw [k0_part17_eq_skeleton]
  unfold k0_part17_skel
  simp only [Prog.lift, Prog.bind_op, Prog.bind_ret, Prog.pure_eq_ret]
  refine op_send K f 5 c (n := 32) rfl (off_facts c).1.2.2.2.2.2.1 rfl (dev_facts c).2.2.2.2.2.2.1 rfl rfl ?_
  refine op_wsA K f 5 c (n := 32) rfl rfl ?_
  refine op_wr K f 5 c rfl rfl ?_
  refine op_foldAG K f 5 c (by decide) (n := 32) rfl (off_facts c).2.2.2.2.2.2.1 rfl (fun v => pay26_eq v) ?_
  rw [wp_ret]
  exact (h _).trans fupd_intro

theorem part18 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v560 : BitVec 32} {v562 : BitVec 32} {v563 : BitVec 32} {Q}
    (h : ∀ r, iprop(St K f c 7 ∗ R) ⊢ Q r) :
    iprop(St K f c 6 ∗ R) ⊢ wp frame (wpE (defs₀ (F := F)) 𝒱₀ (c : Thread nD τ) none) Set.univ
      (k0_part18 a0 h0 a1 h1 a2 h2 a3 h3 a4 h4 a5 h5 a6 h6 aM h7 xM h8 cc0_scratch3 cc0_scratch4 cc0_scratch5 cc0_scratch6 c v2 v560 v562 v563) Q := by
  rw [k0_part18_eq_skeleton]
  unfold k0_part18_skel
  simp only [Prog.lift, Prog.bind_op, Prog.bind_ret, Prog.pure_eq_ret]
  refine op_send K f 6 c (n := 64) rfl (off_facts c).1.2.2.2.2.2.2.1 rfl (dev_facts c).2.2.2.2.2.2.2.1 rfl rfl ?_
  refine op_wsA K f 6 c (n := 64) rfl rfl ?_
  refine op_wr K f 6 c rfl rfl ?_
  refine op_foldAG K f 6 c (by decide) (n := 64) rfl (off_facts c).2.2.2.2.2.2.2.1 rfl (fun v => pay27_eq v) ?_
  rw [wp_ret]
  exact (h _).trans fupd_intro

theorem part19 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v588 : BitVec 32} {v590 : BitVec 32} {v591 : BitVec 32} {Q}
    (h : ∀ r, iprop(StS K f c 8 ∗ R) ⊢ Q r) :
    iprop(St K f c 7 ∗ R) ⊢ wp frame (wpE (defs₀ (F := F)) 𝒱₀ (c : Thread nD τ) none) Set.univ
      (k0_part19 a0 h0 a1 h1 a2 h2 a3 h3 a4 h4 a5 h5 a6 h6 aM h7 xM h8 cc0_scratch3 cc0_scratch4 cc0_scratch5 cc0_scratch6 c v2 v588 v590 v591) Q := by
  rw [k0_part19_eq_skeleton]
  unfold k0_part19_skel
  simp only [Prog.lift, Prog.bind_op, Prog.bind_ret, Prog.pure_eq_ret]
  refine op_send K f 7 c (n := 128) rfl (off_facts c).1.2.2.2.2.2.2.2.1 rfl (dev_facts c).2.2.2.2.2.2.2.2.1 rfl rfl ?_
  refine op_wsA K f 7 c (n := 128) rfl rfl ?_
  refine op_wr K f 7 c rfl rfl ?_
  refine op_foldAG K f 7 c (by decide) (n := 128) rfl (off_facts c).2.2.2.2.2.2.2.2.1 rfl (fun v => pay28_eq v) ?_
  refine op_send K f 8 c (n := 256) rfl (off_facts c).1.2.2.2.2.2.2.2.2.1 rfl (dev_facts c).2.2.2.2.2.2.2.2.2.1 rfl rfl ?_
  rw [wp_ret]
  exact (h _).trans fupd_intro

theorem part20 (c : Dev nD) {a0 : Memref sig .tc .vmem S1x1024x1024 .f32} {a1 : Memref sig .tc .vmem S1024x1024 .f32}
    {a2 a3 : Memref sig .tc .vmem S1x1024x8x128 .f32} {a4 : Memref sig .tc .vmem S1024x1024 .f32}
    {a5 : Memref sig .tc .vmem S1x1024x1024 .f32} {a6 : Memref sig .tc .vmem S1024x1024 .f32} {h0 h1 h2 h3 h4 h5 h6 h7 h8}
    {v2 : BitVec 32} {v616 : BitVec 32} {v618 : BitVec 32} {v619 : BitVec 32} {Q}
    (h : ∀ r, iprop(StS K f c 9 ∗ R) ⊢ Q r) :
    iprop(StS K f c 8 ∗ R) ⊢ wp frame (wpE (defs₀ (F := F)) 𝒱₀ (c : Thread nD τ) none) Set.univ
      (k0_part20 a0 h0 a1 h1 a2 h2 a3 h3 a4 h4 a5 h5 a6 h6 aM h7 xM h8 cc0_scratch3 cc0_scratch4 cc0_scratch5 cc0_scratch6 c v2 v616 v618 v619) Q := by
  rw [k0_part20_eq_skeleton]
  unfold k0_part20_skel
  simp only [Prog.lift, Prog.bind_op, Prog.bind_ret, Prog.pure_eq_ret]
  refine op_wsA K f 8 c (n := 256) rfl rfl ?_
  refine op_wr K f 8 c rfl rfl ?_
  refine op_foldAG K f 8 c (by decide) (n := 256) rfl (off_facts c).2.2.2.2.2.2.2.2.2.1 rfl (fun v => pay29_eq v) ?_
  refine op_send K f 9 c (n := 512) rfl (off_facts c).1.2.2.2.2.2.2.2.2.2 rfl (dev_facts c).2.2.2.2.2.2.2.2.2.2 rfl rfl ?_
  rw [wp_ret]
  exact (h _).trans fupd_intro

end Cert.KernelIdeal.Xchg
end
-- ==== Proof.Body.lean ====
/- The whole body on one device, from the handshake to the store of the result. -/
module

public import proofs.«01_k».proof.Proof.AttParts
public import proofs.«01_k».proof.Proof.Parts

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (K : GSem nD τ sig → ℕ) (f : Dev nD → AccC F)
variable {R : sProp (MT nD τ sig Unit (Elt F) ℕ UU ℕ)}
variable (x : FVec F S1x1024x1024 .f32) (wq : FVec F S1024x1024 .f32) (kb vb : FVec F S1x1024x8x128 .f32) (wo : FVec F S1024x1024 .f32)

/-- The operands' staging buffers, as the body finds and leaves them, with the scratch holding the heads' results. -/
def Held (c : Dev nD) : sProp (MT nD τ sig Unit (Elt F) ℕ UU ℕ) :=
  iprop((stg c cc0_stg0_0 x ∗ stg c cc0_stg1_0 wq) ∗ (∃ n, Att (query x wq) kb vb c n) ∗ stg c cc0_stg4_0 wo)

/-- What the exchange starts from. -/
theorem exchange_start (c : Dev nD) (hf : f c = part x wq kb vb wo) :
    iprop(Att (query x wq) kb vb c 8 ∗ (stg c cc0_stg4_0 wo ∗ accW c (k0_pay20 (ctx (query x wq) kb vb) wo))
      ∗ BarW c ∗ (stg c cc0_stg0_0 x ∗ stg c cc0_stg1_0 wq) ∗ Gs K f c ∗ R)
    ⊢ iprop(St K f c 0 ∗ (semVal (barCell c) 0 ∗ Held x wq kb vb wo c ∗ R)) := by
  unfold BarW
  iintro ⟨HAtt, ⟨Hw, HA⟩, ⟨Hlev, Hz, HO, Hp⟩, Hxw, HG, HR⟩
  isplitl [HA Hlev HO Hp HG]
  · unfold St
    isplitl [Hlev]; · iexact Hlev
    isplitl [HA]
    · rw [show accAt f 0 c = k0_pay20 (ctx (query x wq) kb vb) wo from hf]; iexact HA
    isplitl [HO]; · iexact HO
    isplitl [Hp HG]
    · iapply (ready K f c)
      isplitl [Hp] <;> iassumption
    rw [show (done c 0 : sProp (MT nD τ sig Unit (Elt F) ℕ UU ℕ)) = iprop(emp) from rfl]
    iempintro
  isplitl [Hz]; · iexact Hz
  isplitr [HR]
  · unfold Held
    isplitl [Hxw]; · iexact Hxw
    isplitl [HAtt]; · iexists 8; iexact HAtt
    iexact Hw
  iexact HR

/-- The body but its last store. -/
theorem run21 (c : Dev nD) (hf : f c = part x wq kb vb wo) {h0 h1 h2 h3 h4 h5 h6 h7 h8} {Q}
    (h : iprop(St K f c 10 ∗ (semVal (barCell c) 0 ∗ Held x wq kb vb wo c ∗ (∃ g, stg c cc0_stg5_0 g) ∗ R)) ⊢ Q (k0_pay31 (accAt f 10 c))) :
    iprop(BarSt K f c [0, 1, 2, 3, 4] ∗ (stg c cc0_stg0_0 x ∗ stg c cc0_stg1_0 wq)
      ∗ (Att (query x wq) kb vb c 0 ∗ (stg c cc0_stg4_0 wo ∗ ∃ g, accW c g) ∗ Gs K f c ∗ (∃ g, stg c cc0_stg5_0 g) ∗ R))
    ⊢ wp frame (wpE (defs₀ (F := F)) 𝒱₀ (c : Thread nD τ) none) Set.univ
      (k0_part21 b0M h0 b1M h1 b2M h2 b3M h3 b4M h4 b5M h5 cM h6 aM h7 xM h8 cc0_scratch3 cc0_scratch4 cc0_scratch5 cc0_scratch6) Q := by
  rw [k0_part21_eq_skeleton]
  unfold k0_part21_skel
  rw [wp_bind]
  refine part1 K f c x wq fun v2 => ?_
  try dsimp only
  rw [wp_bind]
  have e : (iprop(BarW c ∗ (stg c cc0_stg0_0 x ∗ stg c cc0_stg1_0 wq) ∗ Att (query x wq) kb vb c 0 ∗ (stg c cc0_stg4_0 wo ∗ ∃ g, accW c g)
        ∗ Gs K f c ∗ (∃ g, stg c cc0_stg5_0 g) ∗ R) : sProp (MT nD τ sig Unit (Elt F) ℕ UU ℕ))
      ⊢ iprop(Att (query x wq) kb vb c 0 ∗ (stg c cc0_stg4_0 wo ∗ ∃ g, accW c g)
        ∗ BarW c ∗ (stg c cc0_stg0_0 x ∗ stg c cc0_stg1_0 wq) ∗ Gs K f c ∗ (∃ g, stg c cc0_stg5_0 g) ∗ R) := by
    iintro ⟨HB, Hxw, HAtt, HwA, HG⟩
    isplitl [HAtt]; · iexact HAtt
    isplitl [HwA]; · iexact HwA
    isplitl [HB]; · iexact HB
    isplitl [Hxw]; · iexact Hxw
    iexact HG
  refine e.trans ?_
  refine part2 c (k0_pay1 x) (k0_pay2 wq) (constant S1024x1024 .f32 0x00000000#32) kb vb ?_
  try dsimp only
  rw [wp_bind]
  refine part3 c (k0_pay1 x) (k0_pay2 wq) (constant S1024x1024 .f32 0x00000000#32) kb vb ?_
  try dsimp only
  rw [wp_bind]
  refine part4 c (query x wq) kb vb ?_
  rw [wp_bind]
  refine part5 c (query x wq) kb vb ?_
  try dsimp only
  rw [wp_bind]
  refine part6 c (query x wq) kb vb ?_
  rw [wp_bind]
  refine part7 c (query x wq) kb vb wo fun r => ?_
  try dsimp only
  rw [wp_bind]
  refine part8 c fun r => ?_
  try dsimp only
  refine (exchange_start K f x wq kb vb wo c hf).trans ?_
  rw [wp_bind]
  refine part9 K f c fun r => ?_
  try dsimp only
  rw [wp_bind]
  refine part10 K f c fun r => ?_
  try dsimp only
  rw [wp_bind]
  refine part11 K f c fun r => ?_
  try dsimp only
  rw [wp_bind]
  refine part12 K f c fun r => ?_
  rw [wp_bind]
  refine part13 K f c fun r => ?_
  try dsimp only
  rw [wp_bind]
  refine part14 K f c fun r => ?_
  try dsimp only
  rw [wp_bind]
  refine part15 c fun r => ?_
  try dsimp only
  rw [wp_bind]
  refine part16 K f c fun r => ?_
  try dsimp only
  rw [wp_bind]
  refine part17 K f c fun r => ?_
  try dsimp only
  rw [wp_bind]
  refine part18 K f c fun r => ?_
  try dsimp only
  rw [wp_bind]
  refine part19 K f c fun r => ?_
  try dsimp only
  rw [wp_bind]
  refine part20 K f c fun r => ?_
  simp only [Prog.lift, Prog.bind_op, Prog.bind_ret, Prog.pure_eq_ret]
  refine op_wsA K f 9 c (n := 512) rfl rfl ?_
  refine op_wr K f 9 c rfl rfl ?_
  refine op_foldAG K f 9 c (by decide) (n := 512) rfl (off_facts c).2.2.2.2.2.2.2.2.2.2 rfl (fun v => pay30_eq v) ?_
  change iprop(St K f c 10 ∗ (semVal (barCell c) 0 ∗ Held x wq kb vb wo c ∗ (∃ g, stg c cc0_stg5_0 g) ∗ R)) ⊢ _
  unfold St accW
  iintro ⟨⟨Hlev, HA, HS⟩, Hz, Hh, ⟨%g, H5⟩, HR⟩
  iapply (wp_load (m := aM) 𝒱₀ (c : Thread nD τ) none Set.univ (S := Finset.univ) (Finset.subset_univ _)) $$ HA
  iintro HA
  rw [whole_a]
  iapply (wp_load (m := b5M) 𝒱₀ (c : Thread nD τ) none Set.univ (S := Finset.univ) (Finset.subset_univ _)) $$ H5
  iintro H5
  rw [wp_ret]
  imodintro
  iapply h
  unfold St accW
  isplitl [Hlev HA HS]
  · isplitl [Hlev]; · iexact Hlev
    isplitl [HA]; · iexact HA
    iexact HS
  isplitl [Hz]; · iexact Hz
  isplitl [Hh]; · iexact Hh
  isplitl [H5]; · iexists g; iexact H5
  iexact HR

/-- The body. -/
theorem run (c : Dev nD) (hf : f c = part x wq kb vb wo) {h0 h1 h2 h3 h4 h5 h6 h7 h8} {Q : PUnit.{1} → sProp (MT nD τ sig Unit (Elt F) ℕ UU ℕ)}
    (h : iprop(St K f c 10 ∗ (semVal (barCell c) 0 ∗ Held x wq kb vb wo c ∗ stg c cc0_stg5_0 (k0_pay31 (accAt f 10 c)) ∗ R)) ⊢ Q ⟨⟩) :
    iprop(BarSt K f c [0, 1, 2, 3, 4] ∗ (stg c cc0_stg0_0 x ∗ stg c cc0_stg1_0 wq)
      ∗ (Att (query x wq) kb vb c 0 ∗ (stg c cc0_stg4_0 wo ∗ ∃ g, accW c g) ∗ Gs K f c ∗ (∃ g, stg c cc0_stg5_0 g) ∗ R))
    ⊢ wp frame (wpE (defs₀ (F := F)) 𝒱₀ (c : Thread nD τ) none) Set.univ
      (cc0_body b0M h0 b1M h1 b2M h2 b3M h3 b4M h4 b5M h5 cM h6 aM h7 xM h8 cc0_scratch3 cc0_scratch4 cc0_scratch5 cc0_scratch6) Q := by
  unfold cc0_body
  rw [wp_bind]
  refine run21 K f x wq kb vb wo c hf ?_
  simp only [Prog.lift, Prog.bind_op, Prog.bind_ret, Prog.pure_eq_ret]
  iintro ⟨HS, Hz, Hh, ⟨%g, H5⟩, HR⟩
  iapply (wp_store (m := b5M) (r := Rect.unit (s := S1x1024x1024) ![0, 0, 0] S1x1024x1024.size inb_S1x1024x1024_S1x1024x1024_0_0_0) 𝒱₀ (c : Thread nD τ) none Set.univ (S := Finset.univ) (Finset.subset_univ _)) $$ H5
  iintro H5
  rw [write_5]
  rw [wp_ret]
  imodintro
  iapply h
  isplitl [HS]; · iexact HS
  isplitl [Hz]; · iexact Hz
  isplitl [Hh]; · iexact Hh
  isplitl [H5] <;> iassumption

end Cert.KernelIdeal.Xchg
end
-- ==== Proof.Room.lean ====
/- The exchange buffer as ten slots and a remainder, and the list forms of the transfers as conjunctions over `Fin 10`. -/
module

public import proofs.«01_k».proof.Proof.Shake

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Slots end before the next begins. -/
theorem slots_apart : ∀ t t' : Fin 10, t ≠ t' → SO t + nR t ≤ SO t' ∨ SO t' + nR t' ≤ SO t := by decide

theorem slot_disjoint (t t' : Fin 10) (h : t ≠ t') : Disjoint (comSet (SO t) (nR t)) (comSet (SO t') (nR t')) := by
  rw [Finset.disjoint_left]
  intro i h1 h2
  rw [mem_comSet] at h1 h2
  have := slots_apart t t' h
  omega

/-- All the slots' rows, and what is left of the buffer. -/
abbrev slotU : Finset S2048x1024.Idx := Finset.univ.biUnion fun t : Fin 10 => comSet (SO t) (nR t)
abbrev comOff (c : Dev nD) (g : ComC F) : sProp (MT nD τ sig Unit (Elt F) ℕ UU ℕ) :=
  ((c : Thread nD τ).loc xB) ↦[Finset.univ \ slotU]{fullShare} (g : Buf (Elt F) ((c : Thread nD τ).loc xB))
abbrev comW (c : Dev nD) (g : ComC F) : sProp (MT nD τ sig Unit (Elt F) ℕ UU ℕ) :=
  ((c : Thread nD τ).loc xB) ↦{fullShare} (g : Buf (Elt F) ((c : Thread nD τ).loc xB))

theorem com_split (c : Dev nD) (g : ComC F) :
    comW c g ⊢ iprop((bigSep Finset.univ fun t : Fin 10 => iprop(∃ g, slotP t c g)) ∗ ∃ g, comOff c g) := by
  have e : comW c g ⊢ iprop((((c : Thread nD τ).loc xB) ↦[slotU]{fullShare} (g : Buf (Elt F) ((c : Thread nD τ).loc xB))) ∗ comOff c g) :=
    (pointsTo_split_subset (Finset.subset_univ slotU)).1
  refine e.trans ?_
  rw [show (((c : Thread nD τ).loc xB) ↦[slotU]{fullShare} (g : Buf (Elt F) ((c : Thread nD τ).loc xB)) : sProp (MT nD τ sig Unit (Elt F) ℕ UU ℕ))
      = bigSep Finset.univ fun t : Fin 10 => slotP t c g from
    pointsTo_biUnion (ℓ := (c : Thread nD τ).loc xB) Finset.univ (fun t : Fin 10 => comSet (SO t) (nR t)) fun t _ t' _ h => slot_disjoint t t' h]
  iintro ⟨Hs, Hr⟩
  isplitl [Hs]
  · iapply (show (bigSep Finset.univ fun t : Fin 10 => slotP t c g) ⊢ bigSep Finset.univ fun t : Fin 10 => iprop(∃ g, slotP t c g) from
      bigSep_mono fun t _ => by
        show slotP t c g ⊢ iprop(∃ g, slotP t c g)
        iintro H; iexists g; iexact H) $$ Hs
  iexists g; iexact Hr

theorem com_join (c : Dev nD) :
    iprop((bigSep Finset.univ fun t : Fin 10 => iprop(∃ g, slotP t c g)) ∗ ∃ g, comOff c g) ⊢ iprop(∃ g : ComC F, comW c g) := by
  iintro ⟨Hs, ⟨%g, Hr⟩⟩
  ihave Hs := (show (bigSep Finset.univ fun t : Fin 10 => iprop(∃ g, slotP t c g))
      ⊢ iprop(∃ h, ((c : Thread nD τ).loc xB) ↦[slotU]{fullShare} (h : Buf (Elt F) ((c : Thread nD τ).loc xB))) from by
    haveI : Nonempty (ComC F) := ⟨g⟩
    refine (bigSep_exists_pi Finset.univ fun (t : Fin 10) (h : ComC F) => slotP t c h).trans ?_
    iintro ⟨%fs, H⟩
    ihave H := (pointsTo_biUnion_join (ℓ := (c : Thread nD τ).loc xB) (q := fullShare) Finset.univ (fun t : Fin 10 => comSet (SO t) (nR t)) fs g fun t _ t' _ h => slot_disjoint t t' h) $$ H
    icases H with ⟨%h, -, H⟩
    iexists h; iexact H) $$ Hs
  icases Hs with ⟨%h, Hs⟩
  iexists _
  iapply (pointsTo_join_subset (Finset.subset_univ slotU))
  isplitl [Hs]; · iexact Hs
  iexact Hr

/-- Ten conjuncts. -/
theorem ten (Φ : Fin 10 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem ten_rev (Φ : Fin 10 → sProp (MT nD τ sig Unit (Elt F) ℕ UU ℕ)) :
    bigSep Finset.univ Φ = iprop(Φ 9 ∗ Φ 8 ∗ Φ 7 ∗ Φ 6 ∗ Φ 5 ∗ Φ 4 ∗ Φ 3 ∗ Φ 2 ∗ Φ 1 ∗ Φ 0) :=
  bigSep_univ_eq_bigSepL [9, 8, 7, 6, 5, 4, 3, 2, 1, 0] (by decide) (by decide) Φ

theorem done_ten (c : Dev nD) : (done c 10 : sProp (MT nD τ sig Unit (Elt F) ℕ UU ℕ))
    ⊢ iprop((bigSep Finset.univ fun t : Fin 10 => S3 t c) ∗ bigSep Finset.univ fun t : Fin 10 => iprop(∃ g, slotP t c g)) := by
  rw [← bigSep_sep', ten_rev]
  unfold done
  rw [show ((List.finRange 10).take 10).reverse = [9, 8, 7, 6, 5, 4, 3, 2, 1, 0] from by decide]
  simp only [doneL]
  iintro ⟨H9, H8, H7, H6, H5, H4, H3, H2, H1, H0, _⟩
  isplitl [H9]; · iexact H9
  isplitl [H8]; · iexact H8
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

variable (K : GSem nD τ sig → ℕ) (f : Dev nD → AccC F)

/-- What partner `s`'s signal takes beside the two slots it lends. -/
def Sg (s : Fin 5) (c : Dev nD) : sProp (MT nD τ sig Unit (Elt F) ℕ UU ℕ) :=
  iprop(cellInv ER (talkRd f) (K (barCell (par (lo s) c))) (barCell (par (lo s) c))
      ∗ dutyTok ER (barCell (par (lo s) c)) 0 s ∗ reached ER (barCell (par (lo s) c)) 0)

theorem hs_five (c : Dev nD) :
    iprop((bigSep Finset.univ fun s : Fin 5 => Sg K f s c)
      ∗ (bigSep Finset.univ fun t : Fin 10 => iprop(∃ g, slotP t c g)) ∗ (bigSep Finset.univ fun t : Fin 10 => reached ER (rcvCell t c) 0))
    ⊢ Hs K f c [0, 1, 2, 3, 4] := by
  have e : iprop((bigSep Finset.univ fun t : Fin 10 => iprop(∃ g, slotP (F := F) t c g)) ∗ (bigSep Finset.univ fun t : Fin 10 => reached ER (rcvCell t c) 0))
      ⊢ bigSep Finset.univ fun t : Fin 10 => Give t c := by rw [← bigSep_sep']; exact .rfl
  iintro ⟨HS, HT⟩
  ihave HT := e $$ HT
  ihave HS := (Entails.of_eq (five _)) $$ HS
  ihave HT := (Entails.of_eq (ten _)) $$ HT
  icases HS with ⟨S0, S1, S2, S3, S4⟩
  icases HT with ⟨T0, T1, T2, T3, T4, T5, T6, T7, T8, T9⟩
  unfold Hs Hs Hs Hs Hs Hs Sg
  isplitl [S0 T0 T9]
  · isplitl [S0]; · iexact S0
    isplitl [T0]; · iexact T0
    iexact T9
  isplitl [S1 T1 T8]
  · isplitl [S1]; · iexact S1
    isplitl [T1]; · iexact T1
    iexact T8
  isplitl [S2 T2 T7]
  · isplitl [S2]; · iexact S2
    isplitl [T2]; · iexact T2
    iexact T7
  isplitl [S3 T3 T6]
  · isplitl [S3]; · iexact S3
    isplitl [T3]; · iexact T3
    iexact T6
  isplitl [S4 T4 T5]
  · isplitl [S4]; · iexact S4
    isplitl [T4]; · iexact T4
    iexact T5
  iempintro

theorem gs_ten (c : Dev nD) : (bigSep Finset.univ fun t : Fin 10 => G0 K f t c) ⊢ Gs K f c := by
  rw [ten]; exact .rfl

end Cert.KernelIdeal.Xchg
end
-- ==== Proof.Region.lean ====
/- The pallas_call as a region of @main: what its windows hold, its body's obligation, and its record. -/
module

public import proofs.«01_k».proof.Proof.Body
public import proofs.«01_k».proof.Proof.Room
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! What each device's arrays hold when the region begins: `V`. -/
variable (V : Dev nD → Valuation τ sig (Elt F))

/-- Device `c`'s own part of the sum, and what its result array is left at. -/
def ini (c : Dev nD) : AccC F :=
  part (V c (Proc.devRef .tc main_arg0)) (V c (Proc.devRef .tc main_v9)) (V c (Proc.devRef .tc main_arg2)) (V c (Proc.devRef .tc main_arg3)) (V c (Proc.devRef .tc main_v14))
def outV (c : Dev nD) : FVec F S1x1024x1024 .f32 := k0_pay31 (accAt (ini V) 10 c)

/-! ### What comes from the launch, what the region opens, what it leaves -/

/-- Transfer `t`'s part before its two cells are opened. -/
def P0 (K : GSem nD τ sig → ℕ) (t : Fin 10) (c : Dev nD) : sProp (MT nD τ sig Unit (Elt F) ℕ UU ℕ) :=
  iprop((cellInv ER (talkRd (ini V)) (K (sndCell t c)) (sndCell t c) ∗ cellInv ER (talkRd (ini V)) (K (rcvCell t c)) (rcvCell t c)
      ∗ cellInv ER (talkRd (ini V)) (K (rcvCell t (par t c))) (rcvCell t (par t c)))
    ∗ (openTok ER (sndCell t c) ∗ openTok ER (rcvCell t c))
    ∗ (dutyTok ER (sndCell t c) 0 0 ∗ dutyTok ER (rcvCell t (par t c)) 0 0 ∗ cred (tallyAt (rcvCell t c) () (NT t))))
def Bar (K : GSem nD τ sig → ℕ) (c : Dev nD) : sProp (MT nD τ sig Unit (Elt F) ℕ UU ℕ) :=
  iprop(cellInv ER (talkRd (ini V)) (K (barCell c)) (barCell c) ∗ atPos ER (barCell c) 0 ∅ 0 ∗ cred (tallyAt (barCell c) () 5))

def Tk (c : Dev nD) : sProp (MT nD τ sig Unit (Elt F) ℕ UU ℕ) :=
  iprop(∃ K, Bar V K c ∗ (bigSep Finset.univ fun s : Fin 5 => Sg K (ini V) s c) ∗ (bigSep Finset.univ fun t : Fin 10 => P0 V K t c))
def Xk (c : Dev nD) : sProp (MT nD τ sig Unit (Elt F) ℕ UU ℕ) :=
  iprop(∃ K, levAts L lv ∗ Bar V K c ∗ (bigSep Finset.univ fun s : Fin 5 => Sg K (ini V) s c)
    ∗ (bigSep Finset.univ fun t : Fin 10 => G0 K (ini V) t c) ∗ (bigSep Finset.univ fun t : Fin 10 => reached ER (rcvCell t c) 0))
def Yk (c : Dev nD) : sProp (MT nD τ sig Unit (Elt F) ℕ UU ℕ) := semVal (barCell c) 0

/-- The kernel's own semaphores. -/
abbrev osem (k : Fin 10 × Fin 2) : SemLoc sig := .dma (if k.2 = 0 then sndS k.1 else rcvS k.1)
theorem ownFacts : Pipeline.OwnSemFacts spec0 osem := by decide +kernel

theorem own_eq (c : Dev nD) : (Pipeline.ownSems0 osem c : sProp (MT nD τ sig Unit (Elt F) ℕ UU ℕ)) = bigSep Finset.univ fun t : Fin 10 => S3 t c := by
  unfold Pipeline.ownSems0
  rw [bigSep_univ_prod]
  exact bigSep_congr fun t _ => bigSep_fin_two fun k : Fin 2 => (semVal ((c : Thread nD τ), osem (t, k)) 0 : sProp (MT nD τ sig Unit (Elt F) ℕ UU ℕ))

theorem open_at (K : GSem nD τ sig → ℕ) (t : Fin 10) (c : Dev nD) :
    iprop(P0 V K t c ∗ S3 t c) ⊢ (|={Set.univ}=> iprop(G0 K (ini V) t c ∗ reached ER (rcvCell t c) 0) : sProp (MT nD τ sig Unit (Elt F) ℕ UU ℕ)) := by
  unfold P0 S3 G0
  iintro ⟨⟨⟨#HIs, #HIr, #HIp⟩, ⟨HoS, HoR⟩, Ht⟩, HvS, HvR⟩
  imod (Rounds.cell_open ER (talkRd (ini V)) (g := sndCell t c) (Set.mem_univ (K (sndCell t c)))) $$ [HoS HvS] with ⟨HaS, #HrS⟩
  · isplitr; · iexact HIs
    isplitl [HoS] <;> iassumption
  imod (Rounds.cell_open ER (talkRd (ini V)) (g := rcvCell t c) (Set.mem_univ (K (rcvCell t c)))) $$ [HoR HvR] with ⟨HaR, #HrR⟩
  · isplitr; · iexact HIr
    isplitl [HoR] <;> iassumption
  imodintro
  isplitl [HaS HaR Ht]
  · isplitr
    · isplitr; · iexact HIs
      isplitr; · iexact HIr
      iexact HIp
    isplitl [HaS]; · iexact HaS
    isplitl [HaR]; · iexact HaR
    isplitr; · iexact HrS
    iexact Ht
  iexact HrR

theorem hopen (c : Dev nD) : iprop(Tk V c ∗ Pipeline.ownSems0 osem c ∗ levAts L lv) ⊢ (|={Set.univ}=> Xk V c : sProp (MT nD τ sig Unit (Elt F) ℕ UU ℕ)) := by
  rw [own_eq]
  unfold Tk Xk
  have e (K : GSem nD τ sig → ℕ) : iprop((bigSep Finset.univ fun t : Fin 10 => P0 V K t c) ∗ (bigSep Finset.univ fun t : Fin 10 => S3 t c))
      ⊢ (|={Set.univ}=> iprop((bigSep Finset.univ fun t : Fin 10 => G0 K (ini V) t c) ∗ (bigSep Finset.univ fun t : Fin 10 => reached ER (rcvCell t c) 0))
        : sProp (MT nD τ sig Unit (Elt F) ℕ UU ℕ)) := by
    rw [← bigSep_sep', ← bigSep_sep']
    exact (bigSep_mono fun t _ => open_at V K t c).trans (bigSep_fupd _ _)
  iintro ⟨⟨%K, HB, HS, HP⟩, HO, Hlev⟩
  imod (e K) $$ [HP HO] with ⟨HG, HR⟩
  · isplitl [HP] <;> iassumption
  imodintro
  iexists K
  isplitl [Hlev]; · iexact Hlev
  isplitl [HB]; · iexact HB
  isplitl [HS]; · iexact HS
  isplitl [HG] <;> iassumption

/-! ### The region's data -/

abbrev scr (c : Dev nD) : sProp (MT nD τ sig Unit (Elt F) ℕ UU ℕ) :=
  iprop((∃ g : FVec F S1024x1024 .f32, stg c cc0_scratch0 g) ∗ (∃ g : AccC F, accW c g) ∗ ∃ g : ComC F, comW c g)

def Φ₀ (c : Dev nD) : sProp (MT nD τ sig Unit (Elt F) ℕ UU ℕ) := iprop(Xk V c ∗ scr c ∗ ∃ r, prngReg c r)
def Φ₁ (c : Dev nD) : sProp (MT nD τ sig Unit (Elt F) ℕ UU ℕ) :=
  iprop(Yk c ∗ (bigSep Finset.univ fun t : Fin 10 => S3 t c) ∗ scr c ∗ ∃ r, prngReg c r)

/-- What the body leaves in window `w`'s staging buffer. -/
def aft (c : Dev nD) : (w : Fin cfg0.W) → ((cfg0.win w).block.Idx → Elt F (cfg0.win w).elt)
  | ⟨0, _⟩ => V c (Proc.devRef .tc main_arg0)
  | ⟨1, _⟩ => V c (Proc.devRef .tc main_v9)
  | ⟨2, _⟩ => V c (Proc.devRef .tc main_arg2)
  | ⟨3, _⟩ => V c (Proc.devRef .tc main_arg3)
  | ⟨4, _⟩ => V c (Proc.devRef .tc main_v14)
  | ⟨5, _⟩ => outV V c

def dats (_ : Fin 1) (c : Dev nD) : Dat τ (Elt F) Unit ℕ UU ℕ cfg0 c where
  A w := V c ((cfg0.win w).arr.view.loc (c : Thread nD τ)).2
  after w _ := aft V c w
  Φ t := match t with
    | ⟨0, _⟩ => Φ₀ V c
    | ⟨_ + 1, _⟩ => Φ₁ c
  q _ := fullShare
  owed t := match t with
    | ⟨0, _⟩ => O₀ c
    | ⟨_ + 1, _⟩ => 0

theorem before_0 (c : Dev nD) (d) : (dats V 0 c).before (0 : Fin 6) t0_0 d = V c (Proc.devRef .tc main_arg0) := by
  unfold Dat.before; rw [if_pos (fetch0_0 t0_0)]
  funext y
  show V c (Proc.devRef .tc main_arg0) (((cfg0.win 0).blk t0_0).view.emb y) = V c (Proc.devRef .tc main_arg0) y
  congr 1
  funext a
  apply Fin.ext
  blk_simp
  rw [show win0_0.index t0_0 a = 0 from rfl, zero_mul, zero_add]
theorem before_1 (c : Dev nD) (d) : (dats V 0 c).before (1 : Fin 6) t0_0 d = V c (Proc.devRef .tc main_v9) := by
  unfold Dat.before; rw [if_pos (fetch0_1 t0_0)]
  funext y
  show V c (Proc.devRef .tc main_v9) (((cfg0.win 1).blk t0_0).view.emb y) = V c (Proc.devRef .tc main_v9) y
  congr 1
  funext a
  apply Fin.ext
  blk_simp
  rw [show win0_1.index t0_0 a = 0 from rfl, zero_mul, zero_add]
theorem before_2 (c : Dev nD) (d) : (dats V 0 c).before (2 : Fin 6) t0_0 d = V c (Proc.devRef .tc main_arg2) := by
  unfold Dat.before; rw [if_pos (fetch0_2 t0_0)]
  funext y
  show V c (Proc.devRef .tc main_arg2) (((cfg0.win 2).blk t0_0).view.emb y) = V c (Proc.devRef .tc main_arg2) y
  congr 1
  funext a
  apply Fin.ext
  blk_simp
  rw [show win0_2.index t0_0 a = 0 from rfl, zero_mul, zero_add]
theorem before_3 (c : Dev nD) (d) : (dats V 0 c).before (3 : Fin 6) t0_0 d = V c (Proc.devRef .tc main_arg3) := by
  unfold Dat.before; rw [if_pos (fetch0_3 t0_0)]
  funext y
  show V c (Proc.devRef .tc main_arg3) (((cfg0.win 3).blk t0_0).view.emb y) = V c (Proc.devRef .tc main_arg3) y
  congr 1
  funext a
  apply Fin.ext
  blk_simp
  rw [show win0_3.index t0_0 a = 0 from rfl, zero_mul, zero_add]
theorem before_4 (c : Dev nD) (d) : (dats V 0 c).before (4 : Fin 6) t0_0 d = V c (Proc.devRef .tc main_v14) := by
  unfold Dat.before; rw [if_pos (fetch0_4 t0_0)]
  funext y
  show V c (Proc.devRef .tc main_v14) (((cfg0.win 4).blk t0_0).view.emb y) = V c (Proc.devRef .tc main_v14) y
  congr 1
  funext a
  apply Fin.ext
  blk_simp
  rw [show win0_4.index t0_0 a = 0 from rfl, zero_mul, zero_add]

theorem emb_out (t : Fin cfg0.N) (y : S1x1024x1024.Idx) : ((cfg0.win 5).blk t).view.emb y = y := by
  funext a
  apply Fin.ext
  blk_simp
  rw [show win0_5.index t a = 0 from rfl, zero_mul, zero_add]

theorem arrAt_out (c : Dev nD) : (dats V 0 c).arrAt (5 : Fin 6) cfg0.N = outV V c := by
  refine (dats V 0 c).arrAt_eq_of_cover (5 : Fin 6) (outV V c) (fun t _ => ?_) fun i => ⟨t0_0, flush0_5 _, ?_⟩
  · funext y
    show outV V c y = outV V c (((cfg0.win 5).blk t).view.emb y)
    rw [emb_out]
  · have e := ((cfg0.win 5).blk t0_0).view.emb_mem_set i
    rw [emb_out] at e
    exact e

/-! ### The body's obligation -/

theorem owns_whole (c : Dev nD) (b : Ref sig .tc) (X : b.ty.shape.Idx → Elt F b.ty.elt) :
    (owns (Ix := Unit) (Name := ℕ) (U := UU) (Lvl := ℕ) (c : Thread nD τ) (Memref.whole b) fullShare X : sProp (MT nD τ sig Unit (Elt F) ℕ UU ℕ))
      = iprop(∃ g : Buf (Elt F) ((c : Thread nD τ).loc b), ⌜g = X⌝ ∗ (((c : Thread nD τ).loc b) ↦{fullShare} g)) := by
  unfold owns
  simp only [Memref.view_whole, View.read_whole, View.set_whole]

theorem owes_in (c : Dev nD) (t : Fin (cfg0.N + 1)) (O : CellTallies nD τ sig Unit) (h : (dats V 0 c).owed t = O) :
    (Ow c O : sProp (MT nD τ sig Unit (Elt F) ℕ UU ℕ)) ⊢ (dats V 0 c).owesAt () t := by
  unfold Ow Dat.owesAt Pipeline.owesWithin Dat.bound
  rw [h, show (dats V 0 c).recorded t = Set.univ from rfl]
  iintro ⟨%W, HO⟩
  iexists W
  isplitr; · ipureintro; exact fun _ _ => Or.inl trivial
  iexact HO
theorem owes_out (c : Dev nD) (t : Fin (cfg0.N + 1)) (O : CellTallies nD τ sig Unit) (h : (dats V 0 c).owed t = O) :
    (dats V 0 c).owesAt () t ⊢ (Ow c O : sProp (MT nD τ sig Unit (Elt F) ℕ UU ℕ)) := by
  unfold Ow Dat.owesAt Pipeline.owesWithin
  rw [h]
  iintro ⟨%W, -, HO⟩
  iexists W
  iexact HO

/-- A staging buffer at exactly `X`, as the pipeline states it. -/
abbrev hold (c : Dev nD) (b : Ref sig .tc) (X : b.ty.shape.Idx → Elt F b.ty.elt) : sProp (MT nD τ sig Unit (Elt F) ℕ UU ℕ) :=
  iprop(∃ g : Buf (Elt F) ((c : Thread nD τ).loc b), ⌜g = X⌝ ∗ (((c : Thread nD τ).loc b) ↦{fullShare} g))

def bodyPre (c : Dev nD) : sProp (MT nD τ sig Unit (Elt F) ℕ UU ℕ) :=
  iprop(Φ₀ V c ∗ (dats V 0 c).owesAt () t0_0.castSucc
    ∗ (∃ d, hold c cc0_stg0_0 ((dats V 0 c).before (0 : Fin 6) t0_0 d)) ∗ (∃ d, hold c cc0_stg1_0 ((dats V 0 c).before (1 : Fin 6) t0_0 d))
    ∗ (∃ d, hold c cc0_stg2_0 ((dats V 0 c).before (2 : Fin 6) t0_0 d)) ∗ (∃ d, hold c cc0_stg3_0 ((dats V 0 c).before (3 : Fin 6) t0_0 d))
    ∗ (∃ d, hold c cc0_stg4_0 ((dats V 0 c).before (4 : Fin 6) t0_0 d)) ∗ (∃ d, hold c cc0_stg5_0 ((dats V 0 c).before (5 : Fin 6) t0_0 d)))
def bodyPost (c : Dev nD) : sProp (MT nD τ sig Unit (Elt F) ℕ UU ℕ) :=
  iprop(Φ₁ c ∗ (dats V 0 c).owesAt () t0_0.succ
    ∗ hold c cc0_stg0_0 (aft V c 0) ∗ hold c cc0_stg1_0 (aft V c 1) ∗ hold c cc0_stg2_0 (aft V c 2)
    ∗ hold c cc0_stg3_0 (aft V c 3) ∗ hold c cc0_stg4_0 (aft V c 4) ∗ hold c cc0_stg5_0 (aft V c 5))

/-- What is left once the exchange is over is what the region promises. -/
theorem post_close (K : GSem nD τ sig → ℕ) (c : Dev nD) :
    iprop(St K (ini V) c 10 ∗ (semVal (barCell c) 0
      ∗ Held (V c (Proc.devRef .tc main_arg0)) (V c (Proc.devRef .tc main_v9)) (V c (Proc.devRef .tc main_arg2)) (V c (Proc.devRef .tc main_arg3)) (V c (Proc.devRef .tc main_v14)) c
      ∗ stg c cc0_stg5_0 (k0_pay31 (accAt (ini V) 10 c)) ∗ ((∃ g, comOff c g) ∗ ∃ r, prngReg c r)))
    ⊢ bodyPost V c := by
  unfold St Held Att bodyPost Φ₁ Yk stg
  iintro ⟨⟨-, Hacc, HO, -, Hd⟩, Hb, ⟨⟨H0, H1⟩, ⟨%n, H2, H3, ⟨%g, -, Hc⟩⟩, H4⟩, H5, Hoff, Hreg⟩
  ihave Hd := (done_ten c) $$ Hd
  icases Hd with ⟨Hs, Hsl⟩
  ihave Hcom := (com_join c) $$ [Hsl Hoff]
  · isplitl [Hsl] <;> iassumption
  isplitl [Hb Hs Hacc Hcom Hc Hreg]
  · isplitl [Hb]; · iexact Hb
    isplitl [Hs]; · iexact Hs
    isplitr [Hreg]
    · unfold scr stg
      isplitl [Hc]; · iexists g; iexact Hc
      isplitl [Hacc]; · iexists _; iexact Hacc
      iexact Hcom
    iexact Hreg
  isplitl [HO]
  · iapply (owes_in V c t0_0.succ 0 rfl)
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem body_run (c : Dev nD) {h0 h1 h2 h3 h4 h5 h6 h7 h8} :
    bodyPre V c ⊢ wp frame (wpE (defs₀ (F := F)) 𝒱₀ (c : Thread nD τ) none) Set.univ
      (cc0_body (Memref.whole cc0_stg0_0) h0 (Memref.whole cc0_stg1_0) h1 (Memref.whole cc0_stg2_0) h2 (Memref.whole cc0_stg3_0) h3
        (Memref.whole cc0_stg4_0) h4 (Memref.whole cc0_stg5_0) h5 (Memref.whole cc0_scratch0) h6 (Memref.whole cc0_scratch1) h7
        (Memref.whole cc0_scratch2) h8 cc0_scratch3 cc0_scratch4 cc0_scratch5 cc0_scratch6) (fun _ => bodyPost V c) := by
  have hpre : bodyPre V c ⊢ iprop(∃ K, BarSt K (ini V) c [0, 1, 2, 3, 4]
      ∗ (stg c cc0_stg0_0 (V c (Proc.devRef .tc main_arg0)) ∗ stg c cc0_stg1_0 (V c (Proc.devRef .tc main_v9)))
      ∗ (Att (query (V c (Proc.devRef .tc main_arg0)) (V c (Proc.devRef .tc main_v9))) (V c (Proc.devRef .tc main_arg2)) (V c (Proc.devRef .tc main_arg3)) c 0
        ∗ (stg c cc0_stg4_0 (V c (Proc.devRef .tc main_v14)) ∗ ∃ g, accW c g) ∗ Gs K (ini V) c ∗ (∃ g, stg c cc0_stg5_0 g)
        ∗ ((∃ g, comOff c g) ∗ ∃ r, prngReg c r))) := by
    unfold bodyPre Φ₀ Xk Bar
    iintro ⟨⟨⟨%K, Hlev, HB, HSg, HG, HR⟩, ⟨⟨%gc, Hc⟩, Hacc, ⟨%gx, Hx⟩⟩, Hreg⟩, HO, ⟨%d0, %g0, %e0, H0⟩, ⟨%d1, %g1, %e1, H1⟩,
      ⟨%d2, %g2, %e2, H2⟩, ⟨%d3, %g3, %e3, H3⟩, ⟨%d4, %g4, %e4, H4⟩, ⟨%d5, %g5, %e5, H5⟩⟩
    rw [before_0] at e0
    rw [before_1] at e1
    rw [before_2] at e2
    rw [before_3] at e3
    rw [before_4] at e4
    subst e0 e1 e2 e3 e4
    ihave Hx := (com_split c gx) $$ Hx
    icases Hx with ⟨Hsl, Hoff⟩
    ihave HO := (owes_out V c t0_0.castSucc (O₀ c) rfl) $$ HO
    ihave HHs := (hs_five K (ini V) c) $$ [HSg Hsl HR]
    · isplitl [HSg]; · iexact HSg
      isplitl [Hsl] <;> iassumption
    ihave HG := (gs_ten K (ini V) c) $$ HG
    unfold BarSt Att stg
    iexists K
    isplitl [Hlev HB HO HHs]
    · isplitl [Hlev]; · iexact Hlev
      isplitl [HB]; · iexact HB
      isplitl [HO]; · iexact HO
      iexact HHs
    isplitl [H0 H1]
    · isplitl [H0]; · iexact H0
      iexact H1
    isplitl [H2 H3 Hc]
    · isplitl [H2]; · iexact H2
      isplitl [H3]; · iexact H3
      iexists gc
      isplitr
      · ipureintro; intro i h; exact absurd h (Nat.not_lt_zero _)
      iexact Hc
    isplitl [H4 Hacc]
    · isplitl [H4]; · iexact H4
      iexact Hacc
    isplitl [HG]; · iexact HG
    isplitl [H5]; · iexists g5; iexact H5
    isplitl [Hoff] <;> iassumption
  refine hpre.trans ?_
  iintro ⟨%K, H⟩
  iapply (run K (ini V) (R := iprop((∃ g, comOff c g) ∗ ∃ r, prngReg c r)) (V c (Proc.devRef .tc main_arg0)) (V c (Proc.devRef .tc main_v9))
    (V c (Proc.devRef .tc main_arg2)) (V c (Proc.devRef .tc main_arg3)) (V c (Proc.devRef .tc main_v14)) c rfl (post_close V K c))
  iexact H

set_option maxRecDepth 40000 in
theorem body_ob (c : Dev nD) : BodyObligation (dats V 0 c) (defs₀ (F := F)) 𝒱₀ () Set.univ := fun t => by
  rw [fin_N0 t]
  rw [bigSep_W0, bigSep_W0]
  simp only [owns_whole]
  show bodyPre V c ⊢ wp frame (wpE (defs₀ (F := F)) 𝒱₀ (c : Thread nD τ) none) Set.univ
    (cc0_body (Memref.whole cc0_stg0_0) (hstage0_0 0) (Memref.whole cc0_stg1_0) (hstage0_1 0) (Memref.whole cc0_stg2_0) (hstage0_2 0)
      (Memref.whole cc0_stg3_0) (hstage0_3 0) (Memref.whole cc0_stg4_0) (hstage0_4 0) (Memref.whole cc0_stg5_0) (hstage0_5 0)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost V c)
  exact body_run V c

/-! ### The region's record -/

/-- What each device's arrays hold when the region ends: the result's alone is changed. -/
def V' (c : Dev nD) : Valuation τ sig (Elt F) := Function.update (V c) (Proc.devRef .tc main_v15) (outV V c)

theorem rest_eq (c : Dev nD) : (Pipeline.scopedRest (Ix := Unit) (Name := ℕ) (U := UU) (Lvl := ℕ) (Val := Elt F) (Pipeline.pin (pcfgs (F := F)) adm 0).spec c
    : sProp (MT nD τ sig Unit (Elt F) ℕ UU ℕ)) = scr c := by
  have e := scopedRest0_eq (Ix := Unit) (Val := Elt F) (Name := ℕ) (U := UU) (Lvl := ℕ) c
  exact e

theorem held_none (c : Dev nD) (W : Valuation τ sig (Elt F)) : (StableHlo.held (c.tc : Thread nD τ) ∅ W : sProp (MT nD τ sig Unit (Elt F) ℕ UU ℕ)) = BI.emp := by
  unfold StableHlo.held
  exact BI.bigSep_empty

theorem hin (c : Dev nD) : iprop(Pipeline.scopedRest (Pipeline.pin (pcfgs (F := F)) adm 0).spec c ∗ (∃ r, prngReg c r) ∗ StableHlo.held (c.tc : Thread nD τ) ∅ (V c) ∗ Xk V c)
    ⊢ (Φ₀ V c : sProp (MT nD τ sig Unit (Elt F) ℕ UU ℕ)) := by
  rw [rest_eq]
  unfold Φ₀
  iintro ⟨Hs, Hr, -, HX⟩
  isplitl [HX]; · iexact HX
  isplitl [Hs] <;> iassumption

theorem hout (c : Dev nD) : (Φ₁ c : sProp (MT nD τ sig Unit (Elt F) ℕ UU ℕ))
    ⊢ iprop(Pipeline.scopedRest (Pipeline.pin (pcfgs (F := F)) adm 0).spec c ∗ (∃ r, prngReg c r) ∗ StableHlo.held (c.tc : Thread nD τ) ∅ (V' V c)
      ∗ Pipeline.ownSems0 osem c ∗ Yk c) := by
  rw [rest_eq, held_none, own_eq]
  unfold Φ₁
  iintro ⟨HY, Hsem, Hs, Hr⟩
  isplitl [Hs]; · iexact Hs
  isplitl [Hr]; · iexact Hr
  isplitr; · iempintro
  isplitl [Hsem] <;> iassumption

theorem last_eq : Fin.last (Pipeline.pin (pcfgs (F := F)) adm 0).N = (⟨0 + 1, by rw [show (Pipeline.pin (pcfgs (F := F)) adm 0).N = 1 from N_0]; decide⟩ : Fin ((Pipeline.pin (pcfgs (F := F)) adm 0).N + 1)) :=
  Fin.ext N_0
theorem owed_last (c : Dev nD) : (dats V 0 c).owed (Fin.last (Pipeline.pin (pcfgs (F := F)) adm 0).N) = 0 := by
  rw [last_eq]; rfl
theorem inv_last (c : Dev nD) : (dats V 0 c).Φ (Fin.last (Pipeline.pin (pcfgs (F := F)) adm 0).N) = Φ₁ c := by
  rw [last_eq]; rfl

theorem share_eq (c : Dev nD) (w : Fin (Pipeline.pin (pcfgs (F := F)) adm 0).W) : (dats V 0 c).share w = fullShare := by
  unfold Dat.share; split <;> rfl

theorem role_stage : ∀ (w : Fin 6) (s : Fin (cfg0.win w).nbuf), role (.dma ((cfg0.win w).sem s)) = Role.other := by decide

theorem cut (c : Dev nD) (t : Fin ((Pipeline.pin (pcfgs (F := F)) adm 0).N + 1)) (g : GSem nD τ sig) (i : Unit) (h : 0 < (dats V 0 c).owed t g i) :
    i ∈ L g ∧ (0 : ℕ) < lv g i := by
  obtain ⟨t, ht⟩ := t
  match t, ht, h with
  | 0, _, h =>
    rcases obL_pos (show 0 < obL c (List.finRange 5) g i from h) with ⟨t, rfl⟩ | ⟨d, rfl⟩
    · exact ⟨by rw [L_tc]; exact Finset.mem_singleton_self _, by rw [lv_rcv]; omega⟩
    · exact ⟨by rw [L_tc]; exact Finset.mem_singleton_self _, by rw [lv_bar]; omega⟩
  | _ + 1, _, h => exact absurd (show 0 < (0 : CellTallies nD τ sig Unit) g i from h) (Nat.lt_irrefl 0)

theorem keep (c : Dev nD) (b : DevRef τ sig) (h : b ∈ (Pipeline.ucRefs τ sig \ Pipeline.arrRefs (τ := τ) (pcfgs (F := F) 0).spec) \ ∅) : V' V c b = V c b := by
  have hb : b ∉ Pipeline.arrRefs (τ := τ) (pcfgs (F := F) 0).spec := (Finset.mem_sdiff.mp (Finset.mem_sdiff.mp h).1).2
  have h5 : Proc.devRef .tc main_v15 ∈ Pipeline.arrRefs (τ := τ) spec0 := by decide
  have hne : b ≠ Proc.devRef .tc main_v15 := by rintro rfl; exact hb h5
  exact Function.update_of_ne hne ..

theorem V'_v15 (c : Dev nD) : V' V c (Proc.devRef .tc main_v15) = outV V c := Function.update_self ..
theorem V'_of (c : Dev nD) (r : Ref sig .tc) (h : r ≠ main_v15) : V' V c (Proc.devRef .tc r) = V c (Proc.devRef .tc r) :=
  Function.update_of_ne (StableHlo.devRef_ne_of_ne h) ..

theorem arr_end (c : Dev nD) : (w : Fin 6) → (dats V 0 c).arrAt w cfg0.N = V' V c (Proc.devRef .tc (Pipeline.arrRef spec0 w))
  | 0 => ((dats V 0 c).arrAt_in (0 : Fin 6) rfl _).trans (V'_of V c main_arg0 (by decide)).symm
  | 1 => ((dats V 0 c).arrAt_in (1 : Fin 6) rfl _).trans (V'_of V c main_v9 (by decide)).symm
  | 2 => ((dats V 0 c).arrAt_in (2 : Fin 6) rfl _).trans (V'_of V c main_arg2 (by decide)).symm
  | 3 => ((dats V 0 c).arrAt_in (3 : Fin 6) rfl _).trans (V'_of V c main_arg3 (by decide)).symm
  | 4 => ((dats V 0 c).arrAt_in (4 : Fin 6) rfl _).trans (V'_of V c main_v14 (by decide)).symm
  | 5 => (arrAt_out V c).trans (V'_v15 V c).symm

set_option backward.isDefEq.respectTransparency.types false in
def reg : Pipeline.RegionSeg (pcfgs (F := F)) adm (dats V) () defs₀ 𝒱₀ L lv 0 :=
  Pipeline.RegionSeg.ofTalk (pcfgs (F := F)) adm (dats V) () defs₀ 𝒱₀ L lv 0 osem ownFacts
    ∅ (Pipeline.ucRefs τ sig \ Pipeline.arrRefs (τ := τ) (pcfgs (F := F) 0).spec) (Finset.empty_subset _) launch0.toP rfl (fun c => (body_ob V c).loose)
    (fun _ => 0) O₀ (fun c => (zero_add _).symm) (owed_last V) (fun _ => rfl) (share_eq V)
    V (V' V) (keep V)
    (Tk V) Yk (Xk V) Yk (hopen V) (hin V) (fun c => by rw [inv_last]; exact hout V c)
    (fun c => by iintro H; imodintro; iexact H)
    (fun _ => 0)
    ⟨fun c w s => by rw [L_tc]; exact Finset.mem_singleton_self _,
      fun c w s => by show (match role _ with | .bar => 1 | .snd t => 2 + t.val | .rcv t => 2 + t.val | .other => 0) ≤ 0; rw [role_stage w s],
      fun c t g i h => cut V c t g i h⟩
    (fun _ => iprop(emp))
    (fun c w => rfl) (arr_end V)

/-- What the region starts from and ends at, over the arrays between the calls. -/
theorem arr_sub₀ : Pipeline.arrRefs (τ := τ) spec0 ⊆ Pipeline.ucRefs τ sig := by decide +kernel
theorem arr_sub : Pipeline.arrRefs (τ := τ) (pcfgs (F := F) 0).spec ⊆ Pipeline.ucRefs τ sig := arr_sub₀

theorem reg_pre (c : Dev nD) :
    iprop(StableHlo.held (c : Thread nD τ) (Pipeline.ucRefs τ sig) (V c) ∗ (Tk V c ∗ (∃ r, prngReg c r) ∗ Ow c (O₀ c))) ⊢ (reg V).pre c := by
  show _ ⊢ iprop(StableHlo.held (c.tc : Thread nD τ) (Pipeline.arrRefs (τ := τ) (pcfgs (F := F) 0).spec) (V c) ∗ (∃ r, prngReg c r)
    ∗ (StableHlo.held (c.tc : Thread nD τ) (Pipeline.ucRefs τ sig \ Pipeline.arrRefs (τ := τ) (pcfgs (F := F) 0).spec) (V c) ∗ emp) ∗ Tk V c ∗ ∃ Wd, owes (c : Thread nD τ) (0 + O₀ c) Wd)
  rw [zero_add, StableHlo.held_sub_split (c.tc : Thread nD τ) (arr_sub (F := F)) (V c)]
  unfold Ow
  iintro ⟨⟨HA, HR⟩, HT, Hp, HO⟩
  isplitl [HA]; · iexact HA
  isplitl [Hp]; · iexact Hp
  isplitl [HR]
  · isplitl [HR]; · iexact HR
    iempintro
  isplitl [HT]; · iexact HT
  iexact HO

theorem reg_post (c : Dev nD) :
    (reg V).post c ⊢ iprop(StableHlo.held (c : Thread nD τ) (Pipeline.ucRefs τ sig) (V' V c) ∗ (semVal (barCell c) 0 ∗ Ow c 0)) := by
  show iprop(StableHlo.held (c.tc : Thread nD τ) (Pipeline.arrRefs (τ := τ) (pcfgs (F := F) 0).spec) (V' V c) ∗ (∃ r, prngReg c r)
    ∗ (StableHlo.held (c.tc : Thread nD τ) (Pipeline.ucRefs τ sig \ Pipeline.arrRefs (τ := τ) (pcfgs (F := F) 0).spec) (V' V c) ∗ emp) ∗ Yk c ∗ ∃ Wd, owes (c : Thread nD τ) 0 Wd) ⊢ _
  rw [StableHlo.held_sub_split (c.tc : Thread nD τ) (arr_sub (F := F)) (V' V c)]
  unfold Yk Ow
  iintro ⟨HA, -, ⟨HR, -⟩, HY, HO⟩
  isplitl [HA HR]
  · isplitl [HA]; · iexact HA
    iexact HR
  isplitl [HY]; · iexact HY
  iexact HO

end Cert.KernelIdeal.Xchg
end
-- ==== Proof.Launch.lean ====
/- The launch: every cell's invariant made, the tokens dealt, the credit read off, and @main's run to its end. -/
module

public import proofs.«01_k».proof.Proof.Region

@[expose] public section

noncomputable section

namespace Cert.KernelIdeal.Xchg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

/-! ### The cells and the tokens -/

theorem osem_inj : Function.Injective osem := by decide +kernel
theorem osem_ne : ∀ k, osem k ≠ .reg barrier0 := by decide +kernel

def barEmb : Dev nD ↪ GSem nD τ sig := ⟨fun c => barCell c, fun _ _ h => congrArg (fun g : GSem nD τ sig => g.1.1) h⟩
def ownEmb : Dev nD × (Fin 10 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨ck, -, h⟩ := Finset.mem_map.mp h₂
  exact osem_ne ck.2 (congrArg Prod.snd h)

theorem bar_mem (c : Dev nD) : barCell c ∈ (barCells ∪ ownCells : Finset (GSem nD τ sig)) :=
  Finset.mem_union_left _ (Finset.mem_map_of_mem barEmb (Finset.mem_univ c))
theorem snd_mem (t : Fin 10) (c : Dev nD) : sndCell t c ∈ (barCells ∪ ownCells : Finset (GSem nD τ sig)) :=
  Finset.mem_union_right _ (Finset.mem_map_of_mem ownEmb (Finset.mem_univ (c, (t, (0 : Fin 2)))))
theorem rcv_mem (t : Fin 10) (c : Dev nD) : rcvCell t c ∈ (barCells ∪ ownCells : Finset (GSem nD τ sig)) :=
  Finset.mem_union_right _ (Finset.mem_map_of_mem ownEmb (Finset.mem_univ (c, (t, (1 : Fin 2)))))

/-- A device's tokens: one per barrier duty, one per transfer cell. -/
abbrev Tk₀ : Type := Fin 5 ⊕ (Fin 10 × Fin 2)
abbrev tkSem : Tk₀ → SemLoc sig := fun | .inl _ => .reg barrier0 | .inr k => osem k
abbrev tkDuty : Tk₀ → Fin 5 := fun | .inl s => s | .inr _ => 0
theorem tk_inj : Function.Injective (fun k : Tk₀ => (tkSem k, tkDuty k)) := by
  intro a b h
  have h1 := congrArg Prod.fst h
  have h2 := congrArg Prod.snd h
  match a, b, h1, h2 with
  | .inl s, .inl s', _, h2 => exact congrArg Sum.inl h2
  | .inl _, .inr k, h1, _ => exact absurd h1.symm (osem_ne k)
  | .inr k, .inl _, h1, _ => exact absurd h1 (osem_ne k)
  | .inr k, .inr k', h1, _ => exact congrArg Sum.inr (osem_inj h1)

def allToks : Finset (GSem nD τ sig × ℕ × Fin 5) :=
  Finset.univ.map ⟨fun ck : Dev nD × Tk₀ => (((ck.1 : Thread nD τ), tkSem ck.2), 0, tkDuty ck.2), fun _ _ h =>
    Prod.ext (congrArg (fun t : GSem nD τ sig × ℕ × Fin 5 => t.1.1.1) h)
      (tk_inj (Prod.ext (congrArg (fun t : GSem nD τ sig × ℕ × Fin 5 => t.1.2) h) (congrArg (fun t : GSem nD τ sig × ℕ × Fin 5 => t.2.2) h)))⟩

/-- The launch's element. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource held by device 0 alone. -/
def onZero (X : sProp (MT nD τ sig Unit (Elt F) ℕ UU ℕ)) (c : Dev nD) : sProp (MT nD τ sig Unit (Elt F) ℕ UU ℕ) := if c = 0 then X else iprop(emp)
theorem bigSep_onZero (X : sProp (MT nD τ sig Unit (Elt F) ℕ UU ℕ)) : bigSep Finset.univ (onZero X) = X := by
  rw [bigSep_univ_at _ (0 : Dev nD), bigSep_congr (s := Finset.univ.erase (0 : Dev nD)) (Ψ := fun _ => (BI.emp : sProp (MT nD τ sig Unit (Elt F) ℕ UU ℕ)))
      fun c hc => by unfold onZero; rw [if_neg (Finset.ne_of_mem_erase hc)]; rfl, BI.bigSep_emp_const]
  unfold onZero; rw [if_pos rfl]
  exact BI.equiv_iff.mp sep_emp

def Gz : Dev nD → sProp (MT nD τ sig Unit (Elt F) ℕ UU ℕ) := onZero (BI.own (ER (launchOf barCells ownCells allToks)))

/-! ### The credit -/

theorem rcv_eq_iff {t t' : Fin 10} {c d : Dev nD} (h : rcvCell t c = rcvCell t' d) : t = t' ∧ c = d := by
  have h1 : c = d := congrArg (fun g : GSem nD τ sig => g.1.1) h
  have h2 : role (.dma (rcvS t)) = role (.dma (rcvS t')) := congrArg (fun g : GSem nD τ sig => role g.2) h
  rw [role_rcv, role_rcv] at h2
  exact ⟨Role.rcv.inj h2, h1⟩
theorem rcv_ne_bar (t : Fin 10) (c d : Dev nD) : rcvCell t c ≠ barCell d := fun h => by
  have h2 : role (.dma (rcvS t)) = role (.reg barrier0) := congrArg (fun g : GSem nD τ sig => role g.2) h
  rw [role_rcv, role_bar] at h2
  exact Role.noConfusion h2

theorem owL_rcv (d : Dev nD) (t : Fin 10) (c : Dev nD) : ∀ l : List (Fin 10),
    owL d l (rcvCell t c) () = l.count t * (if d = par t c then NT t else 0)
  | [] => by simp [owL]
  | t' :: ts => by
    unfold owL
    rw [Pi.add_apply, Finsupp.add_apply, owL_rcv d t c ts, tallyAt_apply, List.count_cons, Nat.add_mul]
    congr 1
    by_cases e : t' = t
    · subst e
      by_cases hd : d = par t' c
      · subst hd; rw [par_par]; simp
      · rw [if_neg (fun ⟨h, _⟩ => hd (by rw [(rcv_eq_iff h).2, par_par])), if_neg hd]; simp
    · rw [if_neg (fun ⟨h, _⟩ => e (rcv_eq_iff h).1.symm)]; simp [e]

theorem owL_bar (d c : Dev nD) : ∀ l : List (Fin 10), owL d l (barCell c) () = 0
  | [] => rfl
  | t' :: ts => by
    unfold owL
    rw [Pi.add_apply, Finsupp.add_apply, owL_bar d c ts, tallyAt_apply, if_neg (fun ⟨h, _⟩ => rcv_ne_bar _ _ _ h.symm)]

theorem obL_rcv (d : Dev nD) (t : Fin 10) (c : Dev nD) : ∀ l : List (Fin 5),
    obL d l (rcvCell t c) () = if d = par t c then NT t else 0
  | [] => by
    unfold obL
    rw [owL_rcv, show (List.finRange 10).count t = 1 from by revert t; decide, Nat.one_mul]
  | s :: ss => by
    unfold obL
    rw [Pi.add_apply, Finsupp.add_apply, obL_rcv d t c ss, tallyAt_ne_cell (rcv_ne_bar _ _ _), Finsupp.zero_apply, Nat.add_zero]

theorem obL_bar (d c : Dev nD) : ∀ l : List (Fin 5),
    obL d l (barCell c) () = (l.map fun s => if d = par (lo s) c then 1 else 0).sum
  | [] => by unfold obL; rw [owL_bar]; rfl
  | s :: ss => by
    unfold obL
    rw [Pi.add_apply, Finsupp.add_apply, obL_bar d c ss, tallyAt_apply, List.map_cons, List.sum_cons, Nat.add_comm]
    congr 1
    by_cases hd : d = par (lo s) c
    · subst hd
      have h1 : barCell c = barCell (par (lo s) (par (lo s) c)) := by rw [par_par]
      rw [if_pos rfl]
      exact if_pos ⟨h1, rfl⟩
    · rw [if_neg hd]
      refine if_neg fun ⟨h, _⟩ => hd ?_
      have h1 : c = par (lo s) d := congrArg (fun g : GSem nD τ sig => g.1.1) h
      rw [h1, par_par]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => (show O₀ d (barCell c) PUnit.unit = _ from obL_bar d c (List.finRange 5)),
    show List.finRange 5 = [0, 1, 2, 3, 4] from by decide]
  simp only [List.map_cons, List.map_nil, List.sum_cons, List.sum_nil, Finset.sum_add_distrib, Finset.sum_ite_eq', Finset.sum_ite_eq, Finset.mem_univ, if_true, Finset.sum_const_zero]
  rfl

theorem launch_rcv (t : Fin 10) (c : Dev nD) :
    tallyOn (rcvCell t c) (launchCredit (Pipeline.owing O₀) 0 (rcvCell t c)) = (tallyAt (rcvCell t c) () (NT t) : CellTallies nD τ sig Unit) := by
  unfold tallyAt; refine congrArg _ (Finsupp.ext fun u => ?_); cases u
  rw [Pipeline.launchCredit_owing, Finsupp.single_eq_same, Finset.sum_congr rfl fun d _ => (show O₀ d (rcvCell t c) PUnit.unit = _ from obL_rcv d t c (List.finRange 5)),
    Finset.sum_ite_eq' Finset.univ (par t c) fun _ => NT t, if_pos (Finset.mem_univ _)]

theorem rcvS_inj : Function.Injective rcvS := by decide
def rcvEmb : Fin 10 ↪ SemLoc sig := ⟨fun t => .dma (rcvS t), fun a b h => rcvS_inj (SemLoc.dma.inj h)⟩

theorem creds (c : Dev nD) :
    (Pipeline.launchCred O₀ c : sProp (MT nD τ sig Unit (Elt F) ℕ UU ℕ))
      ⊢ iprop(cred (tallyAt (barCell c) () 5) ∗ bigSep Finset.univ fun t : Fin 10 => cred (tallyAt (rcvCell t c) () (NT t))) := by
  unfold Pipeline.launchCred
  rw [bigSep_univ_at _ (SemLoc.reg barrier0), launch_bar]
  refine sep_mono_right ?_
  have e : bigSep Finset.univ (fun t : Fin 10 => (cred (tallyAt (rcvCell t c) () (NT t)) : sProp (MT nD τ sig Unit (Elt F) ℕ UU ℕ)))
      = bigSep (Finset.univ.map rcvEmb) fun sm : SemLoc sig => cred (tallyOn ((c.tc : Thread nD τ), sm) (launchCredit (Pipeline.owing O₀) 0 ((c.tc : Thread nD τ), sm))) := by
    rw [BI.bigSep_map]
    exact bigSep_congr fun t _ => congrArg cred (launch_rcv t c).symm
  rw [e]
  refine bigSep_subset fun sm h => ?_
  obtain ⟨t, -, rfl⟩ := Finset.mem_map.mp h
  exact Finset.mem_erase.mpr ⟨osem_ne (t, 1), Finset.mem_univ _⟩

/-! ### The tokens dealt -/

def toks (c : Dev nD) : sProp (MT nD τ sig Unit (Elt F) ℕ UU ℕ) :=
  iprop((bigSep Finset.univ fun s : Fin 5 => dutyTok ER (barCell c) 0 s)
    ∗ bigSep Finset.univ fun t : Fin 10 => iprop(dutyTok ER (sndCell t c) 0 0 ∗ dutyTok ER (rcvCell t c) 0 0))
/-- The tokens of the duties device `c` itself pays. -/
def pays (c : Dev nD) : sProp (MT nD τ sig Unit (Elt F) ℕ UU ℕ) :=
  iprop((bigSep Finset.univ fun s : Fin 5 => dutyTok ER (barCell (par (lo s) c)) 0 s)
    ∗ bigSep Finset.univ fun t : Fin 10 => iprop(dutyTok ER (sndCell t c) 0 0 ∗ dutyTok ER (rcvCell t (par t c)) 0 0))

theorem toks_eq : bigSep allToks (fun x => (dutyTok ER x.1 x.2.1 x.2.2 : sProp (MT nD τ sig Unit (Elt F) ℕ UU ℕ))) = bigSep Finset.univ fun c : Dev nD => toks c := by
  unfold allToks
  rw [BI.bigSep_map, bigSep_univ_prod]
  refine bigSep_congr fun c _ => ?_
  rw [bigSep_univ_sum, bigSep_univ_prod]
  unfold toks
  refine congrArg (fun X => iprop((bigSep Finset.univ fun s : Fin 5 => dutyTok ER (barCell c) 0 s) ∗ X)) ?_
  exact bigSep_congr fun t _ => BI.bigSep_fin_two fun k : Fin 2 => (dutyTok ER ((c : Thread nD τ), osem (t, k)) 0 0 : sProp (MT nD τ sig Unit (Elt F) ℕ UU ℕ))

def turn {n : ℕ} (f : Fin n → Fin 10) : Dev nD × Fin n ≃ Dev nD × Fin n :=
  ⟨fun x => (par (f x.2) x.1, x.2), fun x => (par (f x.2) x.1, x.2), fun x => Prod.ext (par_par _ _) rfl, fun x => Prod.ext (par_par _ _) rfl⟩

theorem around {n : ℕ} (f : Fin n → Fin 10) (Φ : Dev nD → Fin n → sProp (MT nD τ sig Unit (Elt F) ℕ UU ℕ)) :
    (bigSep Finset.univ fun c : Dev nD => bigSep Finset.univ fun s : Fin n => Φ c s)
      = bigSep Finset.univ fun c : Dev nD => bigSep Finset.univ fun s : Fin n => Φ (par (f s) c) s := by
  rw [← bigSep_univ_prod (fun x : Dev nD × Fin n => Φ x.1 x.2), bigSep_univ_equiv (turn f), bigSep_univ_prod]
  rfl

theorem toks_around : (bigSep Finset.univ fun c : Dev nD => (toks c : sProp (MT nD τ sig Unit (Elt F) ℕ UU ℕ))) = bigSep Finset.univ fun c : Dev nD => pays c := by
  unfold toks pays
  simp only [bigSep_sep']
  rw [around lo (fun c s => (dutyTok ER (barCell c) 0 s : sProp (MT nD τ sig Unit (Elt F) ℕ UU ℕ))),
    around id (fun c t => (dutyTok ER (rcvCell t c) 0 0 : sProp (MT nD τ sig Unit (Elt F) ℕ UU ℕ)))]
  rfl

/-! ### What each device starts with -/

theorem fam_join {A : Type} [Fintype A] {Φ Ψ : A → sProp (MT nD τ sig Unit (Elt F) ℕ UU ℕ)} :
    iprop(bigSep Finset.univ Φ ∗ bigSep Finset.univ Ψ) ⊢ bigSep Finset.univ fun a => iprop(Φ a ∗ Ψ a) := Entails.of_eq (bigSep_sep' _ _ _).symm
theorem fam_split {A : Type} [Fintype A] {Φ Ψ : A → sProp (MT nD τ sig Unit (Elt F) ℕ UU ℕ)} :
    (bigSep Finset.univ fun a => iprop(Φ a ∗ Ψ a)) ⊢ iprop(bigSep Finset.univ Φ ∗ bigSep Finset.univ Ψ) := Entails.of_eq (bigSep_sep' _ _ _)

variable (V : Dev nD → Valuation τ sig (Elt F))

/-- The records every device may consult. -/
def records (κ : GSem nD τ sig → ℕ) : sProp (MT nD τ sig Unit (Elt F) ℕ UU ℕ) :=
  iprop((bigSep (barCells ∪ ownCells) fun g => cellInv ER (talkRd (ini V)) (κ g) g) ∗ bigSep barCells fun g => reached ER g 0)
instance records_persistent (κ : GSem nD τ sig → ℕ) : BI.Persistent (records V κ) := by unfold records; infer_instance

theorem inv_at (κ : GSem nD τ sig → ℕ) {g : GSem nD τ sig} (hg : g ∈ (barCells ∪ ownCells : Finset (GSem nD τ sig))) :
    records V κ ⊢ cellInv ER (talkRd (ini V)) (κ g) g := by
  have e : (bigSep (barCells ∪ ownCells) fun g => (cellInv ER (talkRd (ini V)) (κ g) g : sProp (MT nD τ sig Unit (Elt F) ℕ UU ℕ)))
      ⊢ cellInv ER (talkRd (ini V)) (κ g) g := bigSep_elim hg
  unfold records
  iintro ⟨H, -⟩
  iapply e $$ H
theorem reached_at (κ : GSem nD τ sig → ℕ) (c : Dev nD) : records V κ ⊢ reached ER (barCell c) 0 := by
  have e : (bigSep barCells fun g => (reached ER g 0 : sProp (MT nD τ sig Unit (Elt F) ℕ UU ℕ))) ⊢ reached ER (barCell c) 0 :=
    bigSep_elim (Finset.mem_map_of_mem barEmb (Finset.mem_univ c))
  unfold records
  iintro ⟨-, H⟩
  iapply e $$ H

/-- What stays with device `c`. -/
def linear (c : Dev nD) : sProp (MT nD τ sig Unit (Elt F) ℕ UU ℕ) :=
  iprop(atPos ER (barCell c) 0 ∅ 0 ∗ (bigSep Finset.univ fun t : Fin 10 => iprop(openTok ER (sndCell t c) ∗ openTok ER (rcvCell t c))) ∗ pays c)
def credit (c : Dev nD) : sProp (MT nD τ sig Unit (Elt F) ℕ UU ℕ) :=
  iprop(cred (tallyAt (barCell c) () 5) ∗ bigSep Finset.univ fun t : Fin 10 => cred (tallyAt (rcvCell t c) () (NT t)))

theorem Tk_intro (κ : GSem nD τ sig → ℕ) (c : Dev nD) : iprop(records V κ ∗ (linear c ∗ credit c)) ⊢ Tk V c := by
  have h1 : iprop(records V κ ∗ bigSep Finset.univ fun s : Fin 5 => dutyTok ER (barCell (par (lo s) c)) 0 s)
      ⊢ bigSep Finset.univ fun s : Fin 5 => Sg κ (ini V) s c :=
    bigSep_with_persistent (R := records V κ) (Φ := fun s : Fin 5 => dutyTok ER (barCell (par (lo s) c)) 0 s) fun s _ => by
      unfold Sg
      iintro ⟨#HR, Hd⟩
      isplitr; · iapply (inv_at V κ (bar_mem _)); iexact HR
      isplitl [Hd]; · iexact Hd
      iapply (reached_at V κ _); iexact HR
  have h2 : iprop(records V κ ∗ bigSep Finset.univ fun t : Fin 10 => iprop((openTok ER (sndCell t c) ∗ openTok ER (rcvCell t c))
        ∗ ((dutyTok ER (sndCell t c) 0 0 ∗ dutyTok ER (rcvCell t (par t c)) 0 0) ∗ cred (tallyAt (rcvCell t c) () (NT t)))))
      ⊢ bigSep Finset.univ fun t : Fin 10 => P0 V κ t c :=
    bigSep_with_persistent (R := records V κ) (Φ := fun t : Fin 10 => iprop((openTok ER (sndCell t c) ∗ openTok ER (rcvCell t c))
        ∗ ((dutyTok ER (sndCell t c) 0 0 ∗ dutyTok ER (rcvCell t (par t c)) 0 0) ∗ cred (tallyAt (rcvCell t c) () (NT t))))) fun t _ => by
      unfold P0
      iintro ⟨#HR, Ho, ⟨Hs, Hr⟩, Hc⟩
      isplitr
      · isplitr; · iapply (inv_at V κ (snd_mem _ _)); iexact HR
        isplitr; · iapply (inv_at V κ (rcv_mem _ _)); iexact HR
        iapply (inv_at V κ (rcv_mem _ _)); iexact HR
      isplitl [Ho]; · iexact Ho
      isplitl [Hs]; · iexact Hs
      isplitl [Hr] <;> iassumption
  unfold linear pays credit Tk Bar
  iintro ⟨#HR, ⟨Ha, Ho, Hb, Hd⟩, Hc, Hcs⟩
  iexists κ
  isplitl [Ha Hc]
  · isplitr; · iapply (inv_at V κ (bar_mem c)); iexact HR
    isplitl [Ha] <;> iassumption
  isplitl [Hb]
  · iapply h1
    isplitr; · iexact HR
    iexact Hb
  iapply h2
  isplitr; · iexact HR
  iapply fam_join; isplitl [Ho]; · iexact Ho
  iapply fam_join; isplitl [Hd]; · iexact Hd
  iexact Hcs

/-- The launch, once for all devices: the barrier cells made from their counters, the others without theirs. -/
theorem fund : iprop((bigSep Finset.univ fun c : Dev nD => semVal (barCell c) 0) ∗ (bigSep Finset.univ fun c : Dev nD => credit c)
      ∗ BI.own (ER (launchOf barCells ownCells allToks)))
    ⊢ (|={Set.univ}=> bigSep Finset.univ fun c : Dev nD => Tk V c : sProp (MT nD τ sig Unit (Elt F) ℕ UU ℕ)) := by
  have hv : bigSep Finset.univ (fun c : Dev nD => (semVal (barCell c) 0 : sProp (MT nD τ sig Unit (Elt F) ℕ UU ℕ))) ⊢ bigSep barCells (fun g => (semVal g 0 : sProp (MT nD τ sig Unit (Elt F) ℕ UU ℕ))) :=
    Entails.of_eq (BI.bigSep_map (s := Finset.univ) barEmb (Φ := fun g : GSem nD τ sig => (semVal g 0 : sProp (MT nD τ sig Unit (Elt F) ℕ UU ℕ)))).symm
  have hat : bigSep barCells (fun g => (atPos ER g 0 ∅ 0 : sProp (MT nD τ sig Unit (Elt F) ℕ UU ℕ))) ⊢ bigSep Finset.univ (fun c : Dev nD => (atPos ER (barCell c) 0 ∅ 0 : sProp (MT nD τ sig Unit (Elt F) ℕ UU ℕ))) :=
    Entails.of_eq (BI.bigSep_map (s := Finset.univ) barEmb (Φ := fun g : GSem nD τ sig => (atPos ER g 0 ∅ 0 : sProp (MT nD τ sig Unit (Elt F) ℕ UU ℕ))))
  have ho : bigSep ownCells (fun g => (openTok ER g : sProp (MT nD τ sig Unit (Elt F) ℕ UU ℕ)))
      ⊢ bigSep Finset.univ (fun c : Dev nD => bigSep Finset.univ fun t : Fin 10 => iprop(openTok ER (sndCell t c) ∗ openTok ER (rcvCell t c))) :=
    Entails.of_eq (by
      rw [BI.bigSep_map, bigSep_univ_prod]
      refine bigSep_congr fun c _ => ?_
      rw [bigSep_univ_prod]
      exact bigSep_congr fun t _ => BI.bigSep_fin_two (fun k : Fin 2 => (openTok ER ((c : Thread nD τ), osem (t, k)) : sProp (MT nD τ sig Unit (Elt F) ℕ UU ℕ))))
  iintro ⟨Hv, Hc, Hu⟩
  imod (Rounds.fund_launch ER (talkRd (ini V)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records V κ) (Φ := fun c => iprop(linear c ∗ credit c)) fun c _ => Tk_intro V κ c)
  isplitr
  · unfold records
    isplitr; · iexact Hinv
    iexact Hr
  iapply fam_join
  isplitr [Hc]
  · unfold linear
    iapply fam_join; isplitl [Hat]; · iapply hat $$ Hat
    iapply fam_join; isplitl [Hopen]; · iapply ho $$ Hopen
    iapply (Entails.of_eq (toks_around (F := F)))
    iapply (Entails.of_eq (toks_eq (F := F))) $$ Htok
  · iexact Hc

theorem unsems_eq (c : Dev nD) : (unscopedSems0 c : sProp (MT nD τ sig Unit (Elt F) ℕ UU ℕ)) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

/-! ### @main -/

variable (m : (ℓ : Loc nD τ sig) → Buf (Elt F) ℓ) (ρ : Dev nD → PrngReg)

/-- What rides along beside the buffers: before the region; after it. -/
def rest (i : Fin 2) (c : Dev nD) : sProp (MT nD τ sig Unit (Elt F) ℕ UU ℕ) :=
  match i with
  | 0 => iprop(Tk (V1 m) c ∗ (∃ r, prngReg c r) ∗ Ow c (O₀ c))
  | 1 => iprop(semVal (barCell c) 0 ∗ Ow c 0)

abbrev T0 (c : Dev nD) : sProp (MT nD τ sig Unit (Elt F) ℕ UU ℕ) :=
  iprop(StableHlo.held (c : Thread nD τ) (Pipeline.ucRefs τ sig) (V0 m c) ∗ rest m 0 c)
abbrev T1 (c : Dev nD) : sProp (MT nD τ sig Unit (Elt F) ℕ UU ℕ) :=
  iprop(StableHlo.held (c : Thread nD τ) (Pipeline.ucRefs τ sig) (V' (V1 m) c) ∗ semVal (barCell c) 0)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gz c)) ∗ levAts L lv)
      ⊢ (|={Set.univ}=> bigSep Finset.univ (T0 m) : sProp (MT nD τ sig Unit (Elt F) ℕ UU ℕ)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ Gz c)
      ⊢ (iprop((StableHlo.held (c : Thread nD τ) (Pipeline.ucRefs τ sig) (V0 m c) ∗ (∃ r, prngReg c r) ∗ Ow c (O₀ c)) ∗ (semVal (barCell c) 0 ∗ (credit c ∗ Gz c)))
        : sProp (MT nD τ sig Unit (Elt F) ℕ UU ℕ)) := by
    rw [← Pipeline.unscopedBufs_held (Ix := Unit) (Name := ℕ) (U := UU) (Lvl := ℕ) c (V0 m c), unsems_eq]
    unfold Ow credit
    iintro ⟨Hh, Hus, HO, Hcr, Hp, HG⟩
    ihave Hc := (creds (F := F) c) $$ Hcr
    isplitl [Hh HO Hp]
    · isplitl [Hh]; · iexact Hh
      isplitl [Hp]; · iexists (ρ c); iexact Hp
      iexists ∅; iexact HO
    isplitl [Hus]; · iexact Hus
    isplitl [Hc] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gz c))
      ⊢ (bigSep Finset.univ fun c : Dev nD => iprop((StableHlo.held (c : Thread nD τ) (Pipeline.ucRefs τ sig) (V0 m c) ∗ (∃ r, prngReg c r) ∗ Ow c (O₀ c)) ∗ (semVal (barCell c) 0 ∗ (credit c ∗ Gz c)))
        : sProp (MT nD τ sig Unit (Elt F) ℕ UU ℕ)) from bigSep_mono fun c _ => hcore c) $$ H
  ihave H2 := fam_split $$ H'; icases H2 with ⟨HB, H3⟩
  ihave H4 := fam_split $$ H3; icases H4 with ⟨Hv, H5⟩
  ihave H6 := fam_split $$ H5; icases H6 with ⟨Hc, HG⟩
  ihave Hu := (show bigSep Finset.univ (Gz (F := F)) ⊢ BI.own (ER (launchOf barCells ownCells allToks)) from
    Entails.of_eq (bigSep_onZero (F := F) (BI.own (ER (launchOf barCells ownCells allToks))))) $$ HG
  imod (fund (V1 m)) $$ [Hv Hc Hu] with HT
  · isplitl [Hv]; · iexact Hv
    isplitl [Hc] <;> iassumption
  imodintro
  iapply (show iprop((bigSep Finset.univ fun c : Dev nD => iprop(StableHlo.held (c : Thread nD τ) (Pipeline.ucRefs τ sig) (V0 m c) ∗ (∃ r, prngReg c r) ∗ Ow c (O₀ c)))
      ∗ bigSep Finset.univ fun c : Dev nD => Tk (V1 m) c) ⊢ (bigSep Finset.univ (T0 m) : sProp (MT nD τ sig Unit (Elt F) ℕ UU ℕ)) from by
    rw [← bigSep_sep']
    exact bigSep_mono fun c _ => by
      show _ ⊢ iprop(StableHlo.held (c : Thread nD τ) (Pipeline.ucRefs τ sig) (V0 m c) ∗ (Tk (V1 m) c ∗ (∃ r, prngReg c r) ∗ Ow c (O₀ c)))
      iintro ⟨⟨Hh, Hp, HO⟩, HT⟩
      isplitl [Hh]; · iexact Hh
      isplitl [HT]; · iexact HT
      isplitl [Hp] <;> iassumption)
  isplitl [HB] <;> iassumption

theorem V'_arg (c : Dev nD) (r : Ref sig .tc) (h : r ≠ main_v15) (h' : r ∉ hostOps0_W) :
    V' (V1 m) c (Proc.devRef .tc r) = m ((c : Thread nD τ).loc r) :=
  (V'_of (V1 m) c r h).trans (V1_of m c r h')

/-- What a run leaves. -/
abbrev Ends (s : MemSt nD τ sig (Elt F)) (c : Dev nD) : Prop :=
  s.mem ((c.tc : Thread nD τ).loc main_v15) = outV (V1 m) c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem uc_mem (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

set_option backward.isDefEq.respectTransparency.types false in
/-- Every run of @main ends; the result on each device is the exchanged sum; the arguments and the counters are as at the start. -/
theorem run_main : θ_run defs (onTc (τ := τ) (main (F := F))) ⟨m, fun _ => 0, ρ⟩
    (fun r => (∀ c : Dev nD, Ends m r.2 c) ∧ r.2.sem = fun _ => 0) :=
  Pipeline.θ_run_regions_kit_dev_sems (pcfgs (F := F)) adm (dats (V1 m)) () cellOf_inj EP defs₀ 𝒱₀ L lv m ρ main
    (segs m 𝒱₀ L lv (rest m) () (dats (V1 m)) (reg (V1 m)))
    (fun c Q => by
      rewrite [main_chain c, Seg.run_eq_chain,
        show (segs m 𝒱₀ L lv (rest m) () (dats (V1 m)) (reg (V1 m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne Gz u₀
    (by
      unfold u₀ Gz
      iintro Hu
      ihave H := (ownU_pair _ _) $$ Hu
      icases H with ⟨HP, HX⟩
      imodintro
      isplitl [HP]; · iexact HP
      rw [bigSep_onZero]; iexact HX)
    (T0 m) (T1 m)
    (fun c => ⟨.rfl, reg_pre (V1 m) c, (reg_post (V1 m) c).trans (by
      show _ ⊢ iprop((StableHlo.held (c : Thread nD τ) (Pipeline.ucRefs τ sig) (V' (V1 m) c) ∗ semVal (barCell c) 0) ∗ Ow c 0)
      iintro ⟨Hh, Hb, HO⟩
      isplitr [HO]
      · isplitl [Hh] <;> iassumption
      iexact HO)⟩)
    (init m ρ)
    (fun c s => Ends m s c ∧ s.sem (barCell c) = 0)
    (fun c s' => by
      dsimp only [T1]
      unfold StableHlo.held
      iintro ⟨⟨Hh, Hb⟩, HSI⟩
      ihave Hr := (pointsTo_read_all (Pipeline.ucRefs τ sig) (fun b => ((c : Thread nD τ).1, b)) (V' (V1 m) c) s') $$ [Hh HSI]
      · isplitl [Hh] <;> iassumption
      icases Hr with ⟨%h, HSI⟩
      icombine HSI Hb gives %hb
      imodintro
      isplitr
      · ipureintro
        exact ⟨⟨(h (Proc.devRef .tc main_v15) (uc_mem main_v15 (by decide))).trans (V'_v15 (V1 m) c),
          (h (Proc.devRef .tc main_arg0) (uc_mem main_arg0 (by decide))).trans (V'_arg m c main_arg0 (by decide) (by decide)),
          (h (Proc.devRef .tc main_arg1) (uc_mem main_arg1 (by decide))).trans (V'_arg m c main_arg1 (by decide) (by decide)),
          (h (Proc.devRef .tc main_arg2) (uc_mem main_arg2 (by decide))).trans (V'_arg m c main_arg2 (by decide) (by decide)),
          (h (Proc.devRef .tc main_arg3) (uc_mem main_arg3 (by decide))).trans (V'_arg m c main_arg3 (by decide) (by decide)),
          (h (Proc.devRef .tc main_arg4) (uc_mem main_arg4 (by decide))).trans (V'_arg m c main_arg4 (by decide) (by decide))⟩,
          by simpa using hb⟩
      iexact HSI)
    (fun s h hs => ⟨fun c => (h c).1, sem_eq_zero hs fun c sm hsm => by
      obtain rfl := unscoped_eq sm hsm
      exact (h c).2⟩)

end Cert.KernelIdeal.Xchg
end
-- ==== Proof.Frames.lean ====
/- The three frames: the kernel's run read at the bits and at the extended reals, and the reference's host run. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- What a run keeps: the arguments, and every counter back at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  (θ_run Cert.KernelIdeal.defs _ _).mono (fun _ h => ⟨fun c => (h.1 c).2, h.2⟩) (Cert.KernelIdeal.Xchg.run_main (F := F) m ρ)

/-! The kernel as printed and its reading at the extended reals are one text. -/

set_option maxRecDepth 40000 in
theorem body_same {F : FTy → Type} [FloatOps F] : Cert.Kernel.cc0_body (F := F) = Cert.KernelIdeal.cc0_body (F := F) := rfl

set_option maxRecDepth 40000 in
theorem defs₀_same {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀))
    (funext fun l => funext fun a => ?_)
  match l, a with
  | 0, (t, s) => exact congrFun rfl _
  | ⟨n + 1, h⟩, _ => exact absurd h (Nat.not_lt.2 (Nat.le_add_left _ _))

theorem defs_same {F : FTy → Type} [FloatOps F] : Cert.Kernel.defs (F := F) = Cert.KernelIdeal.defs (F := F) :=
  congrArg (Pipeline.defs (Cert.KernelIdeal.pcfgs (F := F))) (defs₀_same (F := F))

set_option maxRecDepth 40000 in
theorem main_same {F : FTy → Type} [FloatOps F] : Cert.Kernel.main (F := F) = Cert.KernelIdeal.main (F := F) := rfl

/-- One run serves both. -/
theorem frame_kernel : Cert.quiescent_Kernel := by
  intro m ρ _
  rw [defs_same, main_same]
  exact kept (F := Bits) m ρ

theorem frame_kernelIdeal : Cert.quiescent_KernelIdeal := fun m ρ _ => kept (F := Ideal) m ρ

/-- The reference is straight-line host code that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
end
-- ==== Proof.Slices.lean ====
/- The device's own columns of the query weights and rows of the output weights, which the host text slices out. -/
module

public import proofs.«01_k».proof.Proof.Gen.KernelIdeal.Regions
public import Idealize.ShloMosaic.Lib.DynamicIndex
public import Idealize.ShloMosaic.Lib.StableHlo
public import Idealize.ShloMosaic.Lib.Pointwise

@[expose] public section

noncomputable section

namespace Cert.KernelIdeal.Xchg

open Cert.KernelIdeal Cert.KernelIdeal.Gen
open Idealize.ShloMosaic Idealize.ShloMosaic.TcCoe

variable {F : FTy → Type} [FloatOps F]

/-- The word the host text scales the device's number to. -/
def startWord (c : Dev nD) : IVec S_ 32 :=
  muli (id (Host.remui (Host.divui (constantI S_ 32 (Dev.word c)) (constantI S_ 32 1#32)) (constantI S_ 32 32#32))) (constantI S_ 32 1024#32)
/-- The same word after the wrap of a negative start. -/
def wrapWord (c : Dev nD) : IVec S_ 32 :=
  select (cmpi .slt (startWord c) (constantI S_ 32 0#32)) (addi (startWord c) (constantI S_ 32 32768#32)) (startWord c)

theorem wrapWord_toInt (c : Dev nD) (j : S_.Idx) : (wrapWord c j).toInt = (1024 * c.val : ℕ) := by
  have h : ∀ c : Dev nD, (wrapWord c (Shape.Idx.first h_S_)).toInt = (1024 * c.val : ℕ) := by decide +kernel
  rw [← h c]
  exact congrArg (fun x => (wrapWord c x).toInt) (funext fun a => a.elim0)

theorem v1_wq (m : (ℓ : Loc nD τ sig) → Buf (Elt F) ℓ) (c : Dev nD) :
    V1 m c main_v9 = (Host.dynamicSlice S1024x1024 (V0 m c main_arg1)
      (fun k => ((![constantI S_ 32 0#32, wrapWord c] : Fin 2 → IVec S_ 32) k (Shape.Idx.first h_S_)).toInt) sliceFits_S1024x32768_S1024x1024) := by
  show StableHlo.after (hostOps0 c) (V0 m c) main_v9 = _
  after_results_simp
  refine congrArg (fun f => Host.dynamicSlice S1024x1024 _ f _) (funext fun k => ?_)
  match k with
  | ⟨0, _⟩ =>
    refine congrArg (fun x : IVec S_ 32 => (x (Shape.Idx.first h_S_)).toInt) ?_
    simp only [Matrix.cons_val_zero, Fin.zero_eta, Fin.mk_zero]
    after_results_simp
    rfl
  | ⟨1, _⟩ =>
    refine congrArg (fun x : IVec S_ 32 => (x (Shape.Idx.first h_S_)).toInt) ?_
    simp only [Fin.mk_one, Matrix.cons_val_one, Matrix.cons_val_zero]
    after_results_simp
    rfl

theorem v1_wo (m : (ℓ : Loc nD τ sig) → Buf (Elt F) ℓ) (c : Dev nD) :
    V1 m c main_v14 = (Host.dynamicSlice S1024x1024 (V0 m c main_arg4)
      (fun k => ((![wrapWord c, constantI S_ 32 0#32] : Fin 2 → IVec S_ 32) k (Shape.Idx.first h_S_)).toInt) sliceFits_S32768x1024_S1024x1024) := by
  show StableHlo.after (hostOps0 c) (V0 m c) main_v14 = _
  after_results_simp
  refine congrArg (fun f => Host.dynamicSlice S1024x1024 _ f _) (funext fun k => ?_)
  match k with
  | ⟨0, _⟩ =>
    refine congrArg (fun x : IVec S_ 32 => (x (Shape.Idx.first h_S_)).toInt) ?_
    simp only [Matrix.cons_val_zero, Fin.zero_eta, Fin.mk_zero]
    after_results_simp
    rfl
  | ⟨1, _⟩ =>
    refine congrArg (fun x : IVec S_ 32 => (x (Shape.Idx.first h_S_)).toInt) ?_
    simp only [Fin.mk_one, Matrix.cons_val_one, Matrix.cons_val_zero]
    after_results_simp
    rfl

theorem wq_fits (c : Dev nD) : S1024x32768.Slices (![0, 1024 * c.val] : Fin 2 → ℕ) S1024x1024 := by
  revert c; decide +kernel
theorem wo_fits (c : Dev nD) : S32768x1024.Slices (![1024 * c.val, 0] : Fin 2 → ℕ) S1024x1024 := by
  revert c; decide +kernel

/-- Column `n` of the device's block of the query weights. -/
def wide (c : Dev nD) (n : Fin 1024) : Fin 32768 :=
  ⟨1024 * c.val + n.val, by have := c.isLt; have : nD = 32 := rfl; omega⟩

theorem wq_apply (m : (ℓ : Loc nD τ sig) → Buf (Elt F) ℓ) (c : Dev nD) (i n : Fin 1024) :
    (V1 m c main_v9 : FVec F S1024x1024 .f32) (ix2 i n)
      = (m (c, main_arg1) : FVec F S1024x32768 .f32) (ix2 i (wide c n)) := by
  rw [v1_wq]
  refine (congrFun (Host.dynamicSlice_eq_extractStridedSlice (s := S1024x32768) S1024x1024 (V0 m c main_arg1) _
    (![0, 1024 * c.val] : Fin 2 → ℕ) sliceFits_S1024x32768_S1024x1024 (wq_fits c) fun a => ?_) _).trans ?_
  · match a with
    | ⟨0, _⟩ => rfl
    | ⟨1, _⟩ => exact wrapWord_toInt c _
  · refine congrArg (m (c, main_arg1) : FVec F S1024x32768 .f32) (funext fun a => Fin.ext ?_)
    match a with
    | ⟨0, _⟩ => exact Nat.zero_add _
    | ⟨1, _⟩ => rfl

theorem wo_apply (m : (ℓ : Loc nD τ sig) → Buf (Elt F) ℓ) (c : Dev nD) (i n : Fin 1024) :
    (V1 m c main_v14 : FVec F S1024x1024 .f32) (ix2 i n)
      = (m (c, main_arg4) : FVec F S32768x1024 .f32) (ix2 (wide c i) n) := by
  rw [v1_wo]
  refine (congrFun (Host.dynamicSlice_eq_extractStridedSlice (s := S32768x1024) S1024x1024 (V0 m c main_arg4) _
    (![1024 * c.val, 0] : Fin 2 → ℕ) sliceFits_S32768x1024_S1024x1024 (wo_fits c) fun a => ?_) _).trans ?_
  · match a with
    | ⟨0, _⟩ => exact wrapWord_toInt c _
    | ⟨1, _⟩ => rfl
  · refine congrArg (m (c, main_arg4) : FVec F S32768x1024 .f32) (funext fun a => Fin.ext ?_)
    match a with
    | ⟨0, _⟩ => rfl
    | ⟨1, _⟩ => exact Nat.zero_add _

end Cert.KernelIdeal.Xchg
end
-- ==== Proof.Attn.lean ====
/- One attention head as sums over the extended reals, and the kernel's head read that way. -/
module

public import proofs.«01_k».proof.Proof.Heads
public import Idealize.ShloMosaic.Lib.Pointwise

@[expose] public section

noncomputable section

namespace Cert.Attn

open Idealize.ShloMosaic
open scoped BigOperators

/-! ### One head -/

/-- The score of row `i` against row `j`: their scaled product where `M` allows it, else the large negative number. -/
def score (M : Fin 1024 → Fin 1024 → BitVec 1) (q k : Fin 1024 → Fin 128 → EReal) (i j : Fin 1024) : EReal :=
  Scalar.select (M i j) ((∑ d : Fin 128, q i d * k j d) * Ideal.ofBits .f32 0x3DB504F3#32) (Ideal.ofBits .f32 0xCE6E6B28#32)

/-- The greatest score of row `i`. -/
def top (M : Fin 1024 → Fin 1024 → BitVec 1) (q k : Fin 1024 → Fin 128 → EReal) (i : Fin 1024) : EReal :=
  Finset.univ.fold max (Ideal.ofBits .f32 0xFF800000#32) fun j : Fin 1024 => score M q k i j

/-- The weight of row `j` for row `i`, before the division by the row's sum. -/
def wt (M : Fin 1024 → Fin 1024 → BitVec 1) (q k : Fin 1024 → Fin 128 → EReal) (i j : Fin 1024) : EReal :=
  Ideal.exp (score M q k i j - top M q k i)

/-- The head's result at row `i`, column `d`. -/
def head (M : Fin 1024 → Fin 1024 → BitVec 1) (q k v : Fin 1024 → Fin 128 → EReal) (i : Fin 1024) (d : Fin 128) : EReal :=
  ∑ j : Fin 1024, Ideal.div (wt M q k i j) (∑ l : Fin 1024, wt M q k i l) * v j d

open Cert.KernelIdeal Cert.KernelIdeal.Gen Cert.KernelIdeal.Xchg

set_option maxRecDepth 16384 in
theorem pay7_apply (M : IVec S1024x1024 1) (q : FVec Ideal S1024x128 .f32) (k v : FVec Ideal S1x1024x1x128 .f32) (i : Fin 1024) (d : Fin 128) :
    k0_pay7 M q k v (ix2 i d)
      = head (fun i j => M (ix2 i j)) (fun i d => q (ix2 i d)) (fun j d => k (ix4 0 j 0 d)) (fun j d => v (ix4 0 j 0 d)) i d := by
  unfold head wt top score
  pointwise [k0_pay7]

/-! ### A device's summand -/

/-- The mask the kernel builds, as a table. -/
def kmask (i j : Fin 1024) : BitVec 1 := k0_pay4 (ix2 i j : S1024x1024.Idx)

set_option maxRecDepth 16384 in
theorem query_apply (x : FVec Ideal S1x1024x1024 .f32) (w : FVec Ideal S1024x1024 .f32) (i n : Fin 1024) :
    query x w (ix2 i n : S1024x1024.Idx) = ∑ t : Fin 1024, x (ix3 0 i t) * w (ix2 t n) := by
  pointwise [query, k0_pay1, k0_pay2, k0_pay3]

set_option maxRecDepth 16384 in
theorem pay20_apply (x w : FVec Ideal S1024x1024 .f32) (i n : Fin 1024) :
    k0_pay20 x w (ix2 i n : S1024x1024.Idx) = ∑ t : Fin 1024, x (ix2 i t) * w (ix2 t n) := by
  pointwise [k0_pay20]

set_option maxRecDepth 16384 in
theorem pay31_apply (x : FVec Ideal S1024x1024 .f32) (b : Fin 1) (i n : Fin 1024) :
    k0_pay31 x (ix3 b i n : S1x1024x1024.Idx) = x (ix2 i n) := by
  pointwise [k0_pay31]

/-- Column `d` of local head `h`. -/
def col (h : Fin 8) (d : Fin 128) : Fin 1024 := ⟨128 * h.val + d.val, by omega⟩

theorem part_apply (x : FVec Ideal S1x1024x1024 .f32) (w : FVec Ideal S1024x1024 .f32) (k v : FVec Ideal S1x1024x8x128 .f32)
    (wo : FVec Ideal S1024x1024 .f32) (i n : Fin 1024) :
    part x w k v wo (ix2 i n : S1024x1024.Idx)
      = ∑ t : Fin 1024, head kmask (fun i d => ∑ u : Fin 1024, x (ix3 0 i u) * w (ix2 u (col ⟨t.val / 128, by omega⟩ d)))
          (fun j d => k (ix4 0 j ⟨t.val / 128, by omega⟩ d)) (fun j d => v (ix4 0 j ⟨t.val / 128, by omega⟩ d)) i ⟨t.val % 128, by omega⟩
          * wo (ix2 t n) := by
  unfold part
  rw [pay20_apply]
  refine Finset.sum_congr rfl fun t _ => congrArg (· * _) ?_
  refine (pay7_apply k0_pay4 (qcol (query x w) ⟨t.val / 128, by omega⟩) (piece k ⟨t.val / 128, by omega⟩) (piece v ⟨t.val / 128, by omega⟩) i ⟨t.val % 128, by omega⟩).trans ?_
  have hq : (fun (i : Fin 1024) (d : Fin 128) => qcol (query x w) ⟨t.val / 128, by omega⟩ (ix2 i d : S1024x128.Idx))
      = fun i d => ∑ u : Fin 1024, x (ix3 0 i u) * w (ix2 u (col ⟨t.val / 128, by omega⟩ d)) :=
    funext fun i => funext fun d => query_apply x w i _
  rw [hq]
  rfl

end Cert.Attn
end
-- ==== Proof.RefVal.lean ====
/- The reference's result in stages, each read at an index. -/
module

public import proofs.«01_k».proof.Proof.Gen.ReferenceIdeal.Run
public import proofs.«01_k».proof.Proof.Attn
public import Idealize.ShloMosaic.Lib.Pointwise

@[expose] public section

noncomputable section

namespace Cert.ReferenceIdeal.Stage

open Cert.ReferenceIdeal Cert.ReferenceIdeal.Gen Cert.Attn
open Idealize.ShloMosaic
open scoped BigOperators

/-! ### The stages -/

/-- The mask: near the diagonal, or an early column, or an early row. -/
def allowed : IVec S1024x1024 1 :=
  ori (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))) (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32)))) (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))

/-- The rows with some allowed column. -/
def live : IVec S1024 1 := Host.reduce IntOp.ori allowed (constantI S_ 1 0#1) reducesTo_S1024x1024_S1024_d1 h_S_

/-- The queries of all heads. -/
def queries (x : FVec Ideal S1x1024x1024 .f32) (w : FVec Ideal S1024x32768 .f32) : FVec Ideal S1x1024x256x128 .f32 :=
  shapeCast _ (Host.dotGeneral dot_S1x1024x1024_S1024x32768_S1x1024x32768_2_0_01_1_n_n none x w) shapeCasts_S1x1024x32768_S1x1024x256x128

/-- The masked scores of all heads. -/
def scores (q k : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 allowed)) (mulf (Host.dotGeneral dot_S1x1024x256x128_S1x1024x256x128_S1x256x1024x1024_3_3_1_1_02_02 none q k) (broadcastInDim S1x256x1024x1024 ![] bcast_S_S1x256x1024x1024 (constant S_ .f32 0x3DB504F3#32))) (broadcastInDim S1x256x1024x1024 ![] bcast_S_S1x256x1024x1024 (id (constant S_ .f32 0xCE6E6B28#32)))

/-- The greatest score of each row. -/
def tops (s : FVec Ideal S1x256x1024x1024 .f32) : FVec Ideal S1x256x1024 .f32 :=
  Host.reduce FloatOps.maximumf s (constant S_ .f32 0xFF800000#32) reducesTo_S1x256x1024x1024_S1x256x1024_d3 h_S_

/-- The exponentials. -/
def exps (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3 (broadcastInDim S1x256x1024x1 ![0, 1, 2] bcast_S1x256x1024_S1x256x1024x1_0_1_2 (tops s))))

/-- The sum of each row's exponentials. -/
def sums (e : FVec Ideal S1x256x1024x1024 .f32) : FVec Ideal S1x256x1024 .f32 :=
  Host.reduceAdd e (constant S_ .f32 0x00000000#32) reducesTo_S1x256x1024x1024_S1x256x1024_d3 h_S_

/-- The weights, zero in a row without an allowed column. -/
def weights (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 live)) (Host.divf e (broadcastInDim S1x256x1024x1024 ![0, 1, 2, 3] bcast_S1x256x1024x1_S1x256x1024x1024_0_1_2_3 (select (broadcastInDim S1x256x1024x1 ![0, 1, 2, 3] bcast_S1x1x1024x1_S1x256x1024x1_0_1_2_3 (broadcastInDim S1x1x1024x1 ![2] bcast_S1024_S1x1x1024x1_2 live)) (broadcastInDim S1x256x1024x1 ![0, 1, 2] bcast_S1x256x1024_S1x256x1024x1_0_1_2 (sums e)) (broadcastInDim S1x256x1024x1 ![] bcast_S_S1x256x1024x1 (id (constant S_ .f32 0x3F800000#32)))))) (broadcastInDim S1x256x1024x1024 ![] bcast_S_S1x256x1024x1024 (id (constant S_ .f32 0x00000000#32)))

/-- The heads' results side by side. -/
def mixed (v : FVec Ideal S1x1024x256x128 .f32) (p : FVec Ideal S1x256x1024x1024 .f32) : FVec Ideal S1x1024x32768 .f32 :=
  shapeCast _ (transpose S1x1024x256x128 [0, 3, 1, 2] (Host.dotGeneral dot_S1x1024x256x128_S1x256x1024x1024_S1x256x128x1024_1_3_3_2_02_01 none v p) transposes_S1x256x128x1024_S1x1024x256x128_0_3_1_2) shapeCasts_S1x1024x256x128_S1x1024x32768

/-- The result. -/
def whole (x : FVec Ideal S1x1024x1024 .f32) (w : FVec Ideal S1024x32768 .f32) (k v : FVec Ideal S1x1024x256x128 .f32)
    (wo : FVec Ideal S32768x1024 .f32) : FVec Ideal S1x1024x1024 .f32 :=
  Host.dotGeneral dot_S1x1024x32768_S32768x1024_S1x1024x1024_2_0_01_1_n_n none (mixed v (weights (exps (scores (queries x w) k)))) wo

open Idealize.ShloMosaic.TcCoe in
theorem res_eq (m : (ℓ : Loc nD τ sig) → Buf (Elt Ideal) ℓ) (c : Dev nD) :
    Cert.ReferenceIdeal.Value.res_out0 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ### The mask -/

/-- The reference's mask, as a table. -/
def rmask (i j : Fin 1024) : BitVec 1 := allowed (ix2 i j)

set_option maxRecDepth 16384 in
theorem allowed_apply (i j : Fin 1024) : allowed (ix2 i j) = kmask i j := by
  unfold kmask
  pointwise [allowed, Cert.KernelIdeal.Gen.k0_pay4]
  exact (BitVec.or_assoc _ _ _).symm

theorem rmask_diag (i : Fin 1024) : rmask i i = 1#1 := by
  unfold rmask
  pointwise [allowed]
  have h : IntOp.subi (BitVec.ofNat 32 i.val) (BitVec.ofNat 32 i.val) = 0#32 := BitVec.sub_self _
  rw [h]
  have h' : IntOp.cmpi .sle (IntOp.absi 0#32) 128#32 = 1#1 := by decide
  rw [h']
  exact (by decide : ∀ b : BitVec 1, IntOp.ori 1#1 b = 1#1) _

/-! ### The stages at an index -/

set_option maxRecDepth 16384 in
theorem queries_apply (x : FVec Ideal S1x1024x1024 .f32) (w : FVec Ideal S1024x32768 .f32) (i : Fin 1024) (h : Fin 256) (d : Fin 128) :
    queries x w (ix4 0 i h d) = ∑ u : Fin 1024, x (ix3 0 i u) * w (ix2 u ⟨128 * h.val + d.val, by omega⟩) := by
  pointwise [queries]
  refine Finset.sum_congr rfl fun u _ => ?_
  simp only [Nat.mul_comm h.val 128]

set_option maxRecDepth 16384 in
theorem scores_apply (q k : FVec Ideal S1x1024x256x128 .f32) (h : Fin 256) (i j : Fin 1024) :
    scores q k (ix4 0 h i j) = score rmask (fun i d => q (ix4 0 i h d)) (fun j d => k (ix4 0 j h d)) i j := by
  unfold score rmask
  pointwise [scores]
  rfl

set_option maxRecDepth 16384 in
theorem tops_apply (s : FVec Ideal S1x256x1024x1024 .f32) (h : Fin 256) (i : Fin 1024) :
    tops s (ix3 0 h i) = Finset.univ.fold max (Ideal.ofBits .f32 0xFF800000#32) fun j : Fin 1024 => s (ix4 0 h i j) := by
  pointwise [tops]

set_option maxRecDepth 16384 in
theorem exps_apply (s : FVec Ideal S1x256x1024x1024 .f32) (h : Fin 256) (i j : Fin 1024) :
    exps s (ix4 0 h i j) = Ideal.exp (s (ix4 0 h i j) - tops s (ix3 0 h i)) := by
  pointwise [exps]

set_option maxRecDepth 16384 in
theorem sums_apply (e : FVec Ideal S1x256x1024x1024 .f32) (h : Fin 256) (i : Fin 1024) :
    sums e (ix3 0 h i) = ∑ j : Fin 1024, e (ix4 0 h i j) := by
  pointwise [sums]

theorem live_apply (i : Fin 1024) : live (ix1 i) = 1#1 := by
  unfold live
  pointwise []
  have h : ∀ s : Finset (Fin 1024), i ∈ s → s.fold IntOp.ori 0#1 (fun x => allowed (ix2 i x)) = 1#1 := by
    intro s hs
    rw [← Finset.insert_erase hs, Finset.fold_insert (Finset.notMem_erase i s)]
    have hd : allowed (ix2 i i) = 1#1 := rmask_diag i
    rw [hd]
    exact (by decide : ∀ b : BitVec 1, IntOp.ori 1#1 b = 1#1) _
  exact h _ (Finset.mem_univ i)

set_option maxRecDepth 16384 in
theorem weights_apply (e : FVec Ideal S1x256x1024x1024 .f32) (h : Fin 256) (i j : Fin 1024) :
    weights e (ix4 0 h i j) = Ideal.div (e (ix4 0 h i j)) (sums e (ix3 0 h i)) := by
  pointwise [weights]
  rw [live_apply]
  rfl

set_option maxRecDepth 16384 in
theorem mixed_apply (v : FVec Ideal S1x1024x256x128 .f32) (p : FVec Ideal S1x256x1024x1024 .f32) (i : Fin 1024) (t : Fin 32768) :
    mixed v p (ix3 0 i t) = ∑ j : Fin 1024, p (ix4 0 ⟨t.val / 128, by omega⟩ i j) * v (ix4 0 j ⟨t.val / 128, by omega⟩ ⟨t.val % 128, by omega⟩) := by
  pointwise [mixed]
  exact Finset.sum_congr rfl fun j _ => mul_comm _ _

set_option maxRecDepth 16384 in
theorem whole_apply (x : FVec Ideal S1x1024x1024 .f32) (w : FVec Ideal S1024x32768 .f32) (k v : FVec Ideal S1x1024x256x128 .f32)
    (wo : FVec Ideal S32768x1024 .f32) (i n : Fin 1024) :
    whole x w k v wo (ix3 0 i n) = ∑ t : Fin 32768, mixed v (weights (exps (scores (queries x w) k))) (ix3 0 i t) * wo (ix2 t n) := by
  pointwise [whole]

/-- Column `d` of head `h` among all heads' columns. -/
def far (h : Fin 256) (d : Fin 128) : Fin 32768 := ⟨128 * h.val + d.val, by omega⟩

/-- The queries of head `h`. -/
def qhead (x : FVec Ideal S1x1024x1024 .f32) (w : FVec Ideal S1024x32768 .f32) (h : Fin 256) (i : Fin 1024) (d : Fin 128) : EReal :=
  ∑ u : Fin 1024, x (ix3 0 i u) * w (ix2 u (far h d))

theorem rmask_eq : rmask = kmask := funext fun i => funext fun j => allowed_apply i j

theorem exps_eq (x : FVec Ideal S1x1024x1024 .f32) (w : FVec Ideal S1024x32768 .f32) (k : FVec Ideal S1x1024x256x128 .f32)
    (h : Fin 256) (i j : Fin 1024) :
    exps (scores (queries x w) k) (ix4 0 h i j) = wt kmask (qhead x w h) (fun j d => k (ix4 0 j h d)) i j := by
  have hs : ∀ j : Fin 1024, scores (queries x w) k (ix4 0 h i j) = score kmask (qhead x w h) (fun j d => k (ix4 0 j h d)) i j := by
    intro j
    rw [scores_apply, rmask_eq]
    have hq : (fun (i : Fin 1024) (d : Fin 128) => queries x w (ix4 0 i h d)) = qhead x w h :=
      funext fun i => funext fun d => queries_apply x w i h d
    rw [hq]
  rw [exps_apply, tops_apply, hs j]
  unfold wt top
  congr 2
  exact congrArg (fun f => Finset.univ.fold max (Ideal.ofBits .f32 0xFF800000#32) f) (funext hs)

set_option maxRecDepth 16384 in
/-- The reference at an index: over all heads' columns, the head's result against the output weights. -/
theorem whole_heads (x : FVec Ideal S1x1024x1024 .f32) (w : FVec Ideal S1024x32768 .f32) (k v : FVec Ideal S1x1024x256x128 .f32)
    (wo : FVec Ideal S32768x1024 .f32) (i n : Fin 1024) :
    whole x w k v wo (ix3 0 i n)
      = ∑ t : Fin 32768, head kmask (qhead x w ⟨t.val / 128, by omega⟩) (fun j d => k (ix4 0 j ⟨t.val / 128, by omega⟩ d))
          (fun j d => v (ix4 0 j ⟨t.val / 128, by omega⟩ d)) i ⟨t.val % 128, by omega⟩ * wo (ix2 t n) := by
  rw [whole_apply]
  refine Finset.sum_congr rfl fun t _ => congrArg (· * _) ?_
  rw [mixed_apply]
  unfold head
  refine Finset.sum_congr rfl fun j _ => ?_
  rw [weights_apply, sums_apply, exps_eq]
  refine congrArg (fun z => z * v (ix4 0 j ⟨t.val / 128, by omega⟩ ⟨t.val % 128, by omega⟩)) ?_
  exact congrArg (Ideal.div _) (Finset.sum_congr rfl fun l _ => exps_eq x w k _ i l)

end Cert.ReferenceIdeal.Stage
end
-- ==== Proof.Total.lean ====
/- The ten transfers as a sum: after them every device holds the sum of what all the devices started from. Which
   devices' summands an accumulator holds is kept as a bit mask per block of 32 rows. -/
module

public import proofs.«01_k».proof.Proof.Geom
public import Idealize.ShloMosaic.PureOps.Ideal.Laws

@[expose] public section

noncomputable section

namespace Cert.KernelIdeal.Xchg

open Cert.KernelIdeal
open Idealize.ShloMosaic
open scoped BigOperators

/-- Whether block `b` of 32 rows is among the rows transfer `t` changes on device `c`. -/
def hit (t : Fin 10) (c : Dev nD) (b : ℕ) : Bool := decide (ko t c ≤ 32 * b ∧ 32 * b < ko t c + nR t)

/-- The devices whose summands block `b` of device `c` holds after `t` transfers, as a bit mask. -/
def who : ℕ → Dev nD → ℕ → ℕ
  | 0, c, _ => 2 ^ c.val
  | t + 1, c, b =>
    bif hit ⟨t % 10, Nat.mod_lt _ (by decide)⟩ c b then
      bif decide (t % 10 < 5) then who t c b ||| who t (par ⟨t % 10, Nat.mod_lt _ (by decide)⟩ c) b
      else who t (par ⟨t % 10, Nat.mod_lt _ (by decide)⟩ c) b
    else who t c b

theorem nR_blocks : ∀ t : Fin 10, nR t % 32 = 0 := by decide
theorem ko_blocks : ∀ (t : Fin 10) (c : Dev nD), ko t c % 32 = 0 := by decide +kernel

set_option maxRecDepth 100000 in
theorem who_apart : ∀ (t : Fin 5) (c : Dev nD) (b : Fin 32),
    (hit ⟨t.val, by omega⟩ c b.val && (who t.val c b.val &&& who t.val (par ⟨t.val, by omega⟩ c) b.val != 0)) = false := by decide +kernel

set_option maxRecDepth 100000 in
theorem who_all : ∀ (c : Dev nD) (b : Fin 32), who 10 c b.val = 2 ^ 32 - 1 := by decide +kernel

theorem hit_iff (t : Fin 10) (c : Dev nD) (r : ℕ) : hit t c (r / 32) = true ↔ ko t c ≤ r ∧ r < ko t c + nR t := by
  unfold hit
  rw [decide_eq_true_iff]
  have h1 := nR_blocks t
  have h2 := ko_blocks t c
  omega

/-- The summands of the devices in a mask. -/
def gather (f : Dev nD → AccC Ideal) (w : ℕ) (i : S1024x1024.Idx) : EReal := ∑ d : Dev nD, if w.testBit d.val then f d i else 0

theorem gather_or (f : Dev nD → AccC Ideal) (v w : ℕ) (h : v &&& w = 0) (i : S1024x1024.Idx) :
    gather f (v ||| w) i = gather f v i + gather f w i := by
  unfold gather
  rw [← Finset.sum_add_distrib]
  refine Finset.sum_congr rfl fun d _ => ?_
  have hd : (v &&& w).testBit d.val = false := by rw [h]; exact Nat.zero_testBit _
  rw [Nat.testBit_and] at hd
  rw [Nat.testBit_or]
  cases hv : v.testBit d.val <;> cases hw : w.testBit d.val <;> simp_all

theorem accAt_sum (f : Dev nD → AccC Ideal) : ∀ (t : ℕ), t ≤ 10 → ∀ (c : Dev nD) (i : S1024x1024.Idx),
    accAt f t c i = gather f (who t c ((i 0).val / 32)) i
  | 0, _, c, i => by
    show f c i = gather f (2 ^ c.val) i
    unfold gather
    rw [Finset.sum_eq_single c]
    · simp [Nat.testBit_two_pow_self]
    · intro d _ hd
      rw [Nat.testBit_two_pow_of_ne (fun h => hd (Fin.ext h.symm))]
      rfl
    · intro h; exact absurd (Finset.mem_univ _) h
  | t + 1, ht, c, i => by
    have ih := accAt_sum f t (by omega)
    have hb : (i 0).val / 32 < 32 := by have h : (i 0).val < 1024 := (i 0).isLt; omega
    have hi : (⟨t % 10, Nat.mod_lt _ (by decide)⟩ : Fin 10) = ⟨t, by omega⟩ := Fin.ext (Nat.mod_eq_of_lt (by omega))
    have hs : accAt f (t + 1) = stepAcc ⟨t, by omega⟩ (accAt f t) := accAt_succ f ⟨t, by omega⟩
    rw [hs]
    unfold stepAcc
    rw [who, hi, Nat.mod_eq_of_lt (show t < 10 by omega)]
    by_cases hh : hit ⟨t, by omega⟩ c ((i 0).val / 32) = true
    · rw [if_pos ((hit_iff _ _ _).mp hh), hh, cond_true]
      by_cases h5 : t < 5
      · rw [if_pos h5, decide_eq_true h5, cond_true, gather_or, ← ih, ← ih]
        · rfl
        · have := who_apart ⟨t, h5⟩ c ⟨(i 0).val / 32, hb⟩
          simpa [hh] using this
      · rw [if_neg h5, decide_eq_false h5, cond_false, ih]
    · rw [if_neg (fun h => hh ((hit_iff _ _ _).mpr h)), Bool.eq_false_iff.mpr hh, cond_false, ih]

/-- After the ten transfers every device holds the sum over all the devices. -/
theorem accAt_all (f : Dev nD → AccC Ideal) (c : Dev nD) (i : S1024x1024.Idx) : accAt f 10 c i = ∑ d : Dev nD, f d i := by
  have hb : (i 0).val / 32 < 32 := by have h : (i 0).val < 1024 := (i 0).isLt; omega
  rw [accAt_sum f 10 (le_refl _) c i, who_all c ⟨(i 0).val / 32, hb⟩]
  unfold gather
  refine Finset.sum_congr rfl fun d _ => ?_
  rw [Nat.testBit_two_pow_sub_one, decide_eq_true d.isLt]
  rfl

end Cert.KernelIdeal.Xchg
end
-- ==== Proof.Value.lean ====
/- The exchanged sum on every device is the reference's result. -/
module

public import proofs.«01_k».proof.Defs
public import proofs.«01_k».proof.Proof.Slices
public import proofs.«01_k».proof.Proof.RefVal
public import proofs.«01_k».proof.Proof.Total
public import proofs.«01_k».proof.Proof.Launch
public import Idealize.ShloMosaic.Lib.LayoutAt

@[expose] public section

noncomputable section

namespace Cert.KernelIdeal.Xchg

open Cert.KernelIdeal Cert.KernelIdeal.Gen Cert.Attn
open Idealize.ShloMosaic Idealize.ShloMosaic.TcCoe Idealize.SL.Sem
open scoped BigOperators

/-- A sum over all heads' columns, device by device. -/
theorem sum_wide (f : Fin 32768 → EReal) : ∑ d : Dev nD, ∑ t : Fin 1024, f (wide d t) = ∑ t : Fin 32768, f t := by
  rw [← Fintype.sum_prod_type' (fun (d : Dev nD) (t : Fin 1024) => f (wide d t))]
  exact Fintype.sum_equiv (finProdFinEquiv (m := 32) (n := 1024)) _ _ fun p =>
    congrArg f (Fin.ext (Nat.add_comm (1024 * p.1.val) p.2.val))

/-- Local head `h` of device `c` among all heads. -/
def glob (c : Dev nD) (h : Fin 8) : Fin 256 := ⟨8 * c.val + h.val, by have := c.isLt; have : nD = 32 := rfl; omega⟩

/-- A device's block of the keys (or values) holds its eight heads. -/
theorem block_heads (c : Dev nD) (K : FVec Ideal Cert.ReferenceIdeal.S1x1024x256x128 .f32) (j : Fin 1024) (h : Fin 8) (d : Fin 128) :
    (Layout.block ⟨4, ![1, 1024, 8, 128]⟩ ⟨4, ![1, 1024, 256, 128]⟩ 2 32 c K) (ix4 0 j h d) = K (ix4 0 j (glob c h) d) := by
  rw [Layout.block_apply]
  refine congrArg K (funext fun a => Fin.ext ?_)
  rw [Layout.Tiles.idx_val]
  match a with
  | ⟨0, _⟩ => rfl
  | ⟨1, _⟩ => rfl
  | ⟨2, _⟩ => exact congrArg (· + h.val) (Nat.mul_comm c.val 8)
  | ⟨3, _⟩ => rfl

theorem head_congr {M : Fin 1024 → Fin 1024 → BitVec 1} {q q' k k' v v' : Fin 1024 → Fin 128 → EReal} {i : Fin 1024} {d d' : Fin 128}
    (hq : q = q') (hk : k = k') (hv : v = v') (hd : d = d') : head M q k v i d = head M q' k' v' i d' := by
  subst hq hk hv hd; rfl

theorem wide_col (c : Dev nD) (h : Fin 8) (d : Fin 128) : wide c (col h d) = Cert.ReferenceIdeal.Stage.far (glob c h) d :=
  Fin.ext (by show 1024 * c.val + (128 * h.val + d.val) = 128 * (8 * c.val + h.val) + d.val; omega)

theorem out_eq (m : (ℓ : Loc nD τ sig) → Buf (Elt Ideal) ℓ)
    (x : FVec Ideal S1x1024x1024 .f32) (w : FVec Ideal S1024x32768 .f32) (k v : FVec Ideal Cert.ReferenceIdeal.S1x1024x256x128 .f32) (wo : FVec Ideal S32768x1024 .f32)
    (hx : ∀ c : Dev nD, m (c, main_arg0) = x) (hw : ∀ c : Dev nD, m (c, main_arg1) = w)
    (hk : ∀ c : Dev nD, m (c, main_arg2) = Layout.block ⟨4, ![1, 1024, 8, 128]⟩ ⟨4, ![1, 1024, 256, 128]⟩ 2 32 c k)
    (hv : ∀ c : Dev nD, m (c, main_arg3) = Layout.block ⟨4, ![1, 1024, 8, 128]⟩ ⟨4, ![1, 1024, 256, 128]⟩ 2 32 c v)
    (hwo : ∀ c : Dev nD, m (c, main_arg4) = wo) (c : Dev nD) :
    outV (V1 m) c = Cert.ReferenceIdeal.Stage.whole x w k v wo := by
  funext e
  obtain ⟨b, i, n, rfl⟩ : ∃ (b : Fin 1) (i n : Fin 1024), e = ix3 b i n := ⟨e 0, e 1, e 2, funext fun a => by match a with | ⟨0, _⟩ => rfl | ⟨1, _⟩ => rfl | ⟨2, _⟩ => rfl⟩
  obtain rfl : b = 0 := Subsingleton.elim _ _
  refine (pay31_apply _ 0 i n).trans ?_
  rw [accAt_all, Cert.ReferenceIdeal.Stage.whole_heads, ← sum_wide]
  refine Finset.sum_congr rfl fun d _ => ?_
  refine (part_apply _ _ _ _ _ i n).trans (Finset.sum_congr rfl fun t _ => ?_)
  have hg : (⟨(wide d t).val / 128, by omega⟩ : Fin 256) = glob d ⟨t.val / 128, by omega⟩ :=
    Fin.ext (by show (1024 * d.val + t.val) / 128 = 8 * d.val + t.val / 128; omega)
  have hr : (⟨t.val % 128, by omega⟩ : Fin 128) = ⟨(wide d t).val % 128, by omega⟩ :=
    Fin.ext (by show t.val % 128 = (1024 * d.val + t.val) % 128; omega)
  rw [hg]
  refine congrArg₂ (fun a b : EReal => a * b) (head_congr ?_ ?_ ?_ hr) ?_
  · funext a e
    refine Finset.sum_congr rfl fun u _ => ?_
    rw [wq_apply, wide_col, hw d]
    refine congrArg (· * _) ?_
    rw [V1_of m d main_arg0 (by decide)]
    exact congrFun (hx d) _
  · funext a e
    rw [V1_of m d main_arg2 (by decide)]
    exact (congrFun (hk d) _).trans (block_heads d k a _ e)
  · funext a e
    rw [V1_of m d main_arg3 (by decide)]
    exact (congrFun (hv d) _).trans (block_heads d v a _ e)
  · rw [wo_apply, hwo d]

end Cert.KernelIdeal.Xchg

namespace Cert.Proof

open Idealize.ShloMosaic Idealize.ShloMosaic.TcCoe Idealize.SL.Sem

theorem value : Cert.algebraic_KernelIdeal_ReferenceIdeal := by
  intro m g m' g' _ h
  refine ⟨Cert.ReferenceIdeal.Value.res_out0 m' 0, ?_, ?_⟩
  · refine (θ_run Cert.KernelIdeal.defs _ _).mono (fun r hr c => ⟨(hr.1 c).1.trans ?_, (hr.1 c).2⟩) (Cert.KernelIdeal.Xchg.run_main (F := Ideal) m g)
    exact (Cert.KernelIdeal.Xchg.out_eq m _ _ _ _ _ (fun c => (h c).1) (fun c => (h c).2.1) (fun c => (h c).2.2.1) (fun c => (h c).2.2.2.1)
      (fun c => (h c).2.2.2.2) c).trans (Cert.ReferenceIdeal.Stage.res_eq m' 0).symm
  · exact (θ_run Cert.ReferenceIdeal.defs _ _).mono (fun r hr => hr 0) (Cert.ReferenceIdeal.Value.run (F := Ideal) m' g')

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, value⟩

end Cert.Proof

end
